-- ==== Defs.lean ====
def Pre_Kernel [hPre_ids_in_tables : Cert.Pre_ids_in_tables.Facts] (m : (ℓ : Loc Cert.Kernel.nD Cert.Kernel.τ Cert.Kernel.sig) → Buf (Elt Bits) ℓ) : Prop :=
  ∀ c : Dev Cert.Kernel.nD,
    (Cert.Pre_ids_in_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_ids_in_tables : Cert.Pre_ids_in_tables.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_tables [hPre_ids_in_tables : Cert.Pre_ids_in_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_ids_in_tables : Cert.Pre_ids_in_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_ids_in_tables : Cert.Pre_ids_in_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_ids_in_tables [hReferenceIdeal : Cert.ReferenceIdeal.Facts] [hPre_ids_in_tables : Cert.Pre_ids_in_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_tables : Cert.Pre_ids_in_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_ids_in_tables : Cert.Pre_ids_in_tables.Facts),
    quiescent_Kernel (hKernel := hKernel) (hPre_ids_in_tables := hPre_ids_in_tables)
    ∧ quiescent_KernelIdeal (hKernelIdeal := hKernelIdeal) (hPre_ids_in_tables := hPre_ids_in_tables)
    ∧ quiescent_ReferenceIdeal (hReferenceIdeal := hReferenceIdeal)
    ∧ quiescent_ReferenceIdeal_pre_ids_in_tables (hReferenceIdeal := hReferenceIdeal) (hPre_ids_in_tables := hPre_ids_in_tables)
    ∧ preserves_Kernel_KernelIdeal
    ∧ algebraic_KernelIdeal_ReferenceIdeal (hKernelIdeal := hKernelIdeal) (hReferenceIdeal := hReferenceIdeal) (hPre_ids_in_tables := hPre_ids_in_tables)
-- ==== Pre_ids_in_tables.lean ====
abbrev S16384 : Shape := ⟨1, ![16384]⟩
abbrev S100000x128 : Shape := ⟨2, ![100000, 128]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : IVec S16384 32) (main_arg1 : IVec S16384 32) (main_arg2 : FVec F S100000x128 .f32) (main_arg3 : FVec F S100000x128 .f32) (main_arg4 : FVec F S128x256 .f32) (main_arg5 : FVec F S128 .f32) (main_arg6 : FVec F S64x128 .f32) (main_arg7 : FVec F S64 .f32) (main_arg8 : FVec F S1x64 .f32) (main_arg9 : FVec F S1 .f32) : IVec S16384 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 100000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 32 := constantI S_ 32 0#32
  let main_v5 : IVec S16384 32 := broadcastInDim S16384 ![] bcast_S_S16384 main_c_1
  let main_v6 : IVec S16384 1 := cmpi .sge main_arg1 main_v5
  let main_v7 : IVec S16384 1 := andi main_v4 main_v6
  let main_c_2 : IVec S_ 32 := constantI S_ 32 100000#32
  let main_v8 : IVec S16384 32 := broadcastInDim S16384 ![] bcast_S_S16384 main_c_2
  let main_v9 : IVec S16384 1 := cmpi .slt main_arg1 main_v8
  let main_v10 : IVec S16384 1 := andi main_v7 main_v9
  main_v10
-- ==== Kernel.lean ====
abbrev S16384 : Shape := ⟨1, ![16384]⟩
abbrev S100000x128 : Shape := ⟨2, ![100000, 128]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S32x4x128 : Shape := ⟨3, ![32, 4, 128]⟩
abbrev S16384x128 : Shape := ⟨2, ![16384, 128]⟩
abbrev S4x128 : Shape := ⟨2, ![4, 128]⟩
abbrev S512x128 : Shape := ⟨2, ![512, 128]⟩
abbrev S_ : Shape := ⟨0, ![]⟩
abbrev S1x4x128 : Shape := ⟨3, ![1, 4, 128]⟩
abbrev S128x128 : Shape := ⟨2, ![128, 128]⟩
abbrev S1x128 : Shape := ⟨2, ![1, 128]⟩
abbrev S128x64 : Shape := ⟨2, ![128, 64]⟩
abbrev S2048x128 : Shape := ⟨2, ![2048, 128]⟩
abbrev S2048 : Shape := ⟨1, ![2048]⟩
abbrev S2048x64 : Shape := ⟨2, ![2048, 64]⟩

abbrev nBuf : Table → Nat
  | .hbm => 22
  | .local .tc .vmem => 12
  | .local .tc .smem => 1
  | .local .scVector .vmem => 2
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S100000x128, .f32⟩
  | .hbm, ⟨3, _⟩ => ⟨S100000x128, .f32⟩
  | .hbm, ⟨4, _⟩ => ⟨S128x256, .f32⟩
  | .hbm, ⟨5, _⟩ => ⟨S128, .f32⟩
  | .hbm, ⟨6, _⟩ => ⟨S64x128, .f32⟩
  | .hbm, ⟨7, _⟩ => ⟨S64, .f32⟩
  | .hbm, ⟨8, _⟩ => ⟨S1x64, .f32⟩
  | .hbm, ⟨9, _⟩ => ⟨S1, .f32⟩
  | .hbm, ⟨10, _⟩ => ⟨S32x4x128, .i32⟩
  | .hbm, ⟨11, _⟩ => ⟨S32x4x128, .i32⟩
  | .hbm, ⟨12, _⟩ => ⟨S16384x128, .f32⟩
  | .hbm, ⟨13, _⟩ => ⟨S16384x128, .f32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S128x64, .f32⟩
  | .hbm, ⟨19, _⟩ => ⟨S1x128, .f32⟩
  | .hbm, ⟨20, _⟩ => ⟨S1x64, .f32⟩
  | .hbm, ⟨21, _⟩ => ⟨S16384, .f32⟩
  | .local .tc .vmem, ⟨0, _⟩ => ⟨S2048x128, .f32⟩
  | .local .tc .vmem, ⟨1, _⟩ => ⟨S2048x128, .f32⟩
  | .local .tc .vmem, ⟨2, _⟩ => ⟨S2048x128, .f32⟩
  | .local .tc .vmem, ⟨3, _⟩ => ⟨S2048x128, .f32⟩
  | .local .tc .vmem, ⟨4, _⟩ => ⟨S128x128, .f32⟩
  | .local .tc .vmem, ⟨5, _⟩ => ⟨S128x128, .f32⟩
  | .local .tc .vmem, ⟨6, _⟩ => ⟨S1x128, .f32⟩
  | .local .tc .vmem, ⟨7, _⟩ => ⟨S128x64, .f32⟩
  | .local .tc .vmem, ⟨8, _⟩ => ⟨S1x64, .f32⟩
  | .local .tc .vmem, ⟨9, _⟩ => ⟨S1x64, .f32⟩
  | .local .tc .vmem, ⟨10, _⟩ => ⟨S2048, .f32⟩
  | .local .tc .vmem, ⟨11, _⟩ => ⟨S2048, .f32⟩
  | .local .tc .smem, ⟨0, _⟩ => ⟨S1, .f32⟩
  | .local .scVector .vmem, ⟨0, _⟩ => ⟨S4x128, .i32⟩
  | .local .scVector .vmem, ⟨1, _⟩ => ⟨S512x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v0_scv : Ref sig .scVector := ⟨.hbm, 10, rfl⟩
abbrev main_v1_scv : Ref sig .scVector := ⟨.hbm, 11, rfl⟩
abbrev main_arg2_scv : Ref sig .scVector := ⟨.hbm, 2, rfl⟩
abbrev main_arg3_scv : Ref sig .scVector := ⟨.hbm, 3, rfl⟩
abbrev main_v2_0_scv : Ref sig .scVector := ⟨.hbm, 12, rfl⟩
abbrev main_v2_1_scv : Ref sig .scVector := ⟨.hbm, 13, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg9_0 : Ref sig .tc := ⟨.vmem, 10, rfl⟩
abbrev cc1_stg9_1 : Ref sig .tc := ⟨.vmem, 11, rfl⟩
abbrev cc1_stg8_0 : Ref sig .tc := ⟨.smem, 0, rfl⟩
abbrev cc0_scratch0 : Ref sig .scVector := ⟨.vmem, 0, rfl⟩
abbrev cc0_scratch1 : Ref sig .scVector := ⟨.vmem, 1, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem9_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_90_r0 : BitVec 32 := 0#32
  let c0_i32_91_r0 : BitVec 32 := 0#32
  ![v1.toNat, 0, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_90_r1 : BitVec 32 := 0#32
  ![v2.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .smem S1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S100000x128 : Shape := ⟨2, ![100000, 128]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x128 : Shape := ⟨2, ![16384, 128]⟩
abbrev S16384x256 : Shape := ⟨2, ![16384, 256]⟩
abbrev S256x128 : Shape := ⟨2, ![256, 128]⟩
abbrev S1x128 : Shape := ⟨2, ![1, 128]⟩
abbrev S128x64 : Shape := ⟨2, ![128, 64]⟩
abbrev S16384x64 : Shape := ⟨2, ![16384, 64]⟩
abbrev S64x1 : Shape := ⟨2, ![64, 1]⟩

abbrev nBuf : Space → Nat
  | .hbm => 79
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S100000x128, .f32⟩
  | .hbm, ⟨3, _⟩ => ⟨S100000x128, .f32⟩
  | .hbm, ⟨4, _⟩ => ⟨S128x256, .f32⟩
  | .hbm, ⟨5, _⟩ => ⟨S128, .f32⟩
  | .hbm, ⟨6, _⟩ => ⟨S64x128, .f32⟩
  | .hbm, ⟨7, _⟩ => ⟨S64, .f32⟩
  | .hbm, ⟨8, _⟩ => ⟨S1x64, .f32⟩
  | .hbm, ⟨9, _⟩ => ⟨S1, .f32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S1, .i32⟩
  | .hbm, ⟨19, _⟩ => ⟨S_, .i32⟩
  | .hbm, ⟨20, _⟩ => ⟨S16384x1, .i32⟩
  | .hbm, ⟨21, _⟩ => ⟨S16384x1, .i1⟩
  | .hbm, ⟨22, _⟩ => ⟨S1x1, .i32⟩
  | .hbm, ⟨23, _⟩ => ⟨S16384x1, .i32⟩
  | .hbm, ⟨24, _⟩ => ⟨S16384x1, .i1⟩
  | .hbm, ⟨25, _⟩ => ⟨S16384x1, .i1⟩
  | .hbm, ⟨26, _⟩ => ⟨S_, .i1⟩
  | .hbm, ⟨27, _⟩ => ⟨S16384, .i1⟩
  | .hbm, ⟨28, _⟩ => ⟨S16384x128, .f32⟩
  | .hbm, ⟨29, _⟩ => ⟨S16384x128, .i1⟩
  | .hbm, ⟨30, _⟩ => ⟨S_, .f32⟩
  | .hbm, ⟨31, _⟩ => ⟨S16384x128, .f32⟩
  | .hbm, ⟨32, _⟩ => ⟨S16384x128, .f32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S1, .i32⟩
  | .hbm, ⟨42, _⟩ => ⟨S_, .i32⟩
  | .hbm, ⟨43, _⟩ => ⟨S16384x1, .i32⟩
  | .hbm, ⟨44, _⟩ => ⟨S16384x1, .i1⟩
  | .hbm, ⟨45, _⟩ => ⟨S1x1, .i32⟩
  | .hbm, ⟨46, _⟩ => ⟨S16384x1, .i32⟩
  | .hbm, ⟨47, _⟩ => ⟨S16384x1, .i1⟩
  | .hbm, ⟨48, _⟩ => ⟨S16384x1, .i1⟩
  | .hbm, ⟨49, _⟩ => ⟨S_, .i1⟩
  | .hbm, ⟨50, _⟩ => ⟨S16384, .i1⟩
  | .hbm, ⟨51, _⟩ => ⟨S16384x128, .f32⟩
  | .hbm, ⟨52, _⟩ => ⟨S16384x128, .i1⟩
  | .hbm, ⟨53, _⟩ => ⟨S_, .f32⟩
  | .hbm, ⟨54, _⟩ => ⟨S16384x128, .f32⟩
  | .hbm, ⟨55, _⟩ => ⟨S16384x128, .f32⟩
  | .hbm, ⟨56, _⟩ => ⟨S16384x256, .f32⟩
  | .hbm, ⟨57, _⟩ => ⟨S256x128, .f32⟩
  | .hbm, ⟨58, _⟩ => ⟨S16384x128, .f32⟩
  | .hbm, ⟨59, _⟩ => ⟨S1x128, .f32⟩
  | .hbm, ⟨60, _⟩ => ⟨S16384x128, .f32⟩
  | .hbm, ⟨61, _⟩ => ⟨S16384x128, .f32⟩
  | .hbm, ⟨62, _⟩ => ⟨S_, .f32⟩
  | .hbm, ⟨63, _⟩ => ⟨S16384x128, .f32⟩
  | .hbm, ⟨64, _⟩ => ⟨S16384x128, .f32⟩
  | .hbm, ⟨65, _⟩ => ⟨S128x64, .f32⟩
  | .hbm, ⟨66, _⟩ => ⟨S16384x64, .f32⟩
  | .hbm, ⟨67, _⟩ => ⟨S1x64, .f32⟩
  | .hbm, ⟨68, _⟩ => ⟨S16384x64, .f32⟩
  | .hbm, ⟨69, _⟩ => ⟨S16384x64, .f32⟩
  | .hbm, ⟨70, _⟩ => ⟨S_, .f32⟩
  | .hbm, ⟨71, _⟩ => ⟨S16384x64, .f32⟩
  | .hbm, ⟨72, _⟩ => ⟨S16384x64, .f32⟩
  | .hbm, ⟨73, _⟩ => ⟨S64x1, .f32⟩
  | .hbm, ⟨74, _⟩ => ⟨S16384x1, .f32⟩
  | .hbm, ⟨75, _⟩ => ⟨S1x1, .f32⟩
  | .hbm, ⟨76, _⟩ => ⟨S16384x1, .f32⟩
  | .hbm, ⟨77, _⟩ => ⟨S16384x1, .f32⟩
  | .hbm, ⟨78, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v1 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_call2_cst : Ref sig .tc := ⟨.hbm, 62, rfl⟩
abbrev main_call2_v0 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_call3_cst : Ref sig .tc := ⟨.hbm, 70, rfl⟩
abbrev main_call3_v0 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩

abbrev nD : Nat := 1
abbrev τ : Topo := Topo.v7x

variable {F : FTy → Type} [FloatOps F]
-- ==== Proof.GatherBatch.lean ====
/-
  Several row streams on ONE counting cell. The tile starts four streams of 128 rows each on one semaphore and waits
  four times before it reads anything. Each stream is 128 row transfers of one amount, so the four together are one
  counted batch of 512 transfers: a stream issued takes the next 128 issue rights of the batch at once, and a wait
  sized to a stream consumes 128 transfers' units. Nothing comes back before the last wait, which hands back every row.
-/
module

public import Idealize.ShloMosaic.Lib.SparseCore.Stream
public import Idealize.ShloMosaic.Lib.Batch
public import Idealize.ShloMosaic.Lib.Tactic

@[expose] public section

noncomputable section

namespace Cert.GatherBatch

open Idealize.ShloMosaic
open Idealize.ShloMosaic.SparseCore (enqueueIndirectGather gatherRow rows gatherPayload rowShape_numel_pos enqueueIndirectGather_bind rowOf rowOf_of_lt)
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

/-- The issue rights from the `j`-th on are the next `o` of them and those from `j + o` on. -/
theorem bigSep_pending_add {n : ℕ} (o j : ℕ) (h : j + o ≤ n) (Φ : Fin n → sProp 𝕄) :
    bigSep (Transfers.pending j) Φ
      = iprop(bigSep Finset.univ (fun k : Fin o => Φ ⟨j + k.val, by have := k.isLt; omega⟩) ∗ bigSep (Transfers.pending (j + o)) Φ) := by
  induction o generalizing j with
  | zero =>
    rw [Finset.univ_eq_empty, bigSep_empty]
    exact (BI.Entails.antisymm (BI.emp_sep (P := bigSep (Transfers.pending (j + 0)) Φ)).1 BI.emp_sep.2).symm
  | succ o ih =>
    rw [Transfers.bigSep_pending_step Φ j (by omega), ih (j + 1) (by omega), bigSep_univ_succ]
    have e : j + 1 + o = j + (o + 1) := by omega
    have e' : (fun k : Fin o => Φ ⟨j + 1 + k.val, by have := k.isLt; omega⟩) = fun k : Fin o => Φ ⟨j + k.succ.val, by have := k.isLt; simp; omega⟩ := by
      funext k; congr 1; apply Fin.ext; simp; omega
    rw [e', e]
    exact BI.Entails.antisymm (show iprop(Φ ⟨j, _⟩ ∗ _ ∗ _) ⊢ iprop((Φ ⟨j, _⟩ ∗ _) ∗ _) from Laws.sep_assoc.2)
      (show iprop((Φ ⟨j, _⟩ ∗ _) ∗ _) ⊢ iprop(Φ ⟨j, _⟩ ∗ _ ∗ _) from Laws.sep_assoc.1)

variable (EC : UEmb Counters (MT nD τ sig Ix (Elt F) Name U Lvl)) (𝒱 : Variants) (c : Thread nD τ) (bd : Option 𝒱.V)
variable {defs : Defs nD τ sig (Elt F) Λ}
variable {sp : Space} {s₀ s si : Shape} {e : EltTy} {a : Nat} {α : Type} {Q : α → sProp (MT nD τ sig Ix (Elt F) Name U Lvl)}

/-- Entry `k` of a list of `o` words, in row-major order. -/
def entry {o : ℕ} (hn : si.numel = o) (k : Fin o) : si.Idx := si.rowMajor.symm (k.cast hn.symm)

theorem entry_bijective {o : ℕ} (hn : si.numel = o) : Function.Bijective (entry (si := si) hn) :=
  si.rowMajor.symm.bijective.comp (finCongr hn.symm).bijective

/-- What row `k` of a gather delivers: its row of the target written with the row of the source the list names, its
    entry of the list, its piece of the source's share. -/
def rowDel (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) (k : Fin (s.size hg.axis')) : sProp 𝕄 :=
  iprop(((dst.view.loc c ↦[(dst.view.slice (s.rowRect hg.axis' k)).set]{fullShare}
      ((dst.view.slice (s.rowRect hg.axis' k)).write (Elt F) fd (fun i => src.view.read (Elt F) fs (hg.rowIdx (r k) i)) Finset.univ))
      ∗ (offs.view.loc c ↦[{offs.view.emb (entry hn k)}]{qo} fo)) ∗ (src.view.loc c ↦[src.view.set]{pieceOf q _ ho k} fs))

instance rowDel_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) (k : Fin (s.size hg.axis')) :
    Storable (upEmb : UEmb _ 𝕄) (rowDel c src dst hg offs hn ho q qo fs fd fo r k) := by
  unfold rowDel; infer_instance

/-- Every row of a gather delivered is the target written with the gather's payload, the source's share and the
    list's. -/
theorem rowDel_join (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) :
    bigSep Finset.univ (rowDel (Ix := Ix) (Name := Name) (U := U) (Lvl := Lvl) c src dst hg offs hn ho q qo fs fd fo r)
      ⊢ iprop((dst.view.loc c ↦[dst.view.set]{fullShare} (dst.view.write (Elt F) fd (gatherPayload hg (src.view.read (Elt F) fs) r) Finset.univ))
          ∗ (src.view.loc c ↦[src.view.set]{q} fs) ∗ (offs.view.loc c ↦[offs.view.set]{qo} fo)) := by
  have hW : ∀ j i, src.view.read (Elt F) fs (hg.rowIdx (r j) i) = gatherPayload hg (src.view.read (Elt F) fs) r ((s.rowRect hg.axis' j).emb i) :=
    fun j i => by unfold gatherPayload; rw [Shape.Gathers.idx_rowRect_emb]
  have hrows : bigSep Finset.univ (fun k => (dst.view.loc c ↦[(dst.view.slice (s.rowRect hg.axis' k)).set]{fullShare}
      ((dst.view.slice (s.rowRect hg.axis' k)).write (Elt F) fd (fun i => src.view.read (Elt F) fs (hg.rowIdx (r k) i)) Finset.univ) : sProp 𝕄))
      ⊢ (dst.view.loc c ↦[dst.view.set]{fullShare} (dst.view.write (Elt F) fd (gatherPayload hg (src.view.read (Elt F) fs) r) Finset.univ) : sProp 𝕄) :=
    pointsTo_rows_write (Ix := Ix) (Name := Name) (U := U) (Lvl := Lvl) c dst.view hg.axis' fd
    (fun k i => src.view.read (Elt F) fs (hg.rowIdx (r k) i)) (gatherPayload hg (src.view.read (Elt F) fs) r) hW
  unfold rowDel
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]; · iapply hrows $$ Hrows
  isplitl [Hsrc]; · iapply (Entails.of_eq (pointsTo_piecesOf (src.view.set) fs ho q).symm) $$ Hsrc
  iapply (Entails.of_eq (pointsTo_entries c offs.view (entry hn) (entry_bijective hn) qo fo).symm) $$ Hoffs

/-- A gather issued as the NEXT `s.size hg.axis'` transfers of a batch on its cell: holding a share of the source, the
    target outright, a share of the list whose words are all in range, and the batch with `j` issued, each of whose next
    rights' deliveries the gather's rows entail, the tile issues it and goes on holding the batch with that many more
    issued. -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {n : ℕ} {D : Fin n → sProp 𝕄} {j u o : ℕ}
    (ι : Ix) (N : ℕ) (hN : ∀ j, (dst.slice (s.rowRect hg.axis' j) (s.stride_rowRect hg.axis' j)).view.dmaCredit = N)
    (hs : 0 < s.numel) (hin : ∀ x, (offs.view.read (Elt F) fo x).toNat < s₀.size hg.axis) (ho : 0 < s.size hg.axis')
    (hoo : s.size hg.axis' = o) (hj : j + o ≤ n) (hu : u ≤ j * N)
    (hD : ∀ t : Fin (s.size hg.axis'), rowDel c src dst hg offs hn ho q qo fs fd fo (rows (offs.view.read (Elt F) fo) hn hin) t
      ⊢ D ⟨j + t.val, by have := t.isLt; omega⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D j u)
      ⊢ iprop((Transfers.Batch EC c (.dma sem) ι N D (j + o) u -∗ wp frame (wpE defs 𝒱 c bd) Set.univ (k ⟨⟩) Q)
          -∗ wp frame (wpE defs 𝒱 c bd) Set.univ (enqueueIndirectGather hp src dst hg offs hn sem hsrc he hsp hr >>= k) Q) := by
  subst hoo
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  let qk : Fin (s.size hg.axis') → PosShare TreeShare := pieceOf q _ ho
  let w : (j : Fin (s.size hg.axis')) → (s.rowShape hg.axis').Idx → Elt F e := fun j i => src.view.read (Elt F) fs (hg.rowIdx (r j) i)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hNs : ∑ t, (rd t).dst.view.dmaCredit = s.size hg.axis' * N := SparseCore.sum_rowCredit_eq _ hN rfl
  unfold Transfers.Batch
  iintro ⟨Hs, Hd, Ho, ⟨%γ, %γ₀, %κ, #Hinv, HI, H0, Hcred⟩⟩ Hk
  ihave HI' := (Entails.of_eq (bigSep_pending_add (F := F) (s.size hg.axis') j hj (fun t => count EC (γ t) 0))) $$ HI
  icases HI' with ⟨Hγ, HI⟩
  ihave Hd' := (Entails.of_eq (pointsTo_rows c dst.view hg.axis' fullShare fd)) $$ Hd
  ihave Ho' := (Entails.of_eq (pointsTo_entries c offs.view S.entry (entry_bijective hn) qo fo)) $$ Ho
  ihave Hs' := (Entails.of_eq (pointsTo_piecesOf (src.view.set) fs ho q)) $$ Hs
  iapply (wp_enqueueIndirectDma 𝒱 c bd Set.univ (qo := qo) (fo := fo) (rd := rd) ι _ hA hrd hNs) $$ [Hd' Ho' Hs' Hγ]
  · have hrow : ∀ t, iprop(inv κ (Transfers.batchBody EC (c, SemLoc.dma sem) N D γ γ₀)
          ∗ ((((dst.view.loc c ↦[(dst.view.slice (s.rowRect hg.axis' t)).set]{fullShare} fd) ∗ S.heldEntry qo fo t)
          ∗ (src.view.loc c ↦[src.view.set]{qk t} fs)) ∗ count EC (γ ⟨j + t.val, by have := t.isLt; omega⟩) 0))
        ⊢ iprop(S.heldEntry qo fo t ∗ (S.heldEntry qo fo t -∗ rowRes c (rd t))) := fun t => by
      iintro ⟨#Hinv, ⟨⟨Hr, He⟩, Hsq⟩, Hγt⟩
      isplitl [He]; · iexact He
      iintro He
      unfold rowRes
      iexists qk t, fs, iprop((dst.view.loc c ↦[(dst.view.slice (s.rowRect hg.axis' t)).set]{fullShare} ((dst.view.slice (s.rowRect hg.axis' t)).write (Elt F) fd (w t) Finset.univ)) ∗ S.heldEntry qo fo t)
      isplitl [Hsq]; · iexact Hsq
      isplitl [Hr He]
      · iapply writeUpdate_frame
        isplitl [Hr]
        · iapply (pointsTo_writeUpdate c (v := dst.view.slice (s.rowRect hg.axis' t)) subset_rfl) $$ Hr
        · iexact He
      · have hcr : ((rd t).dst.view.amount (SemLoc.dma sem)) = N := hN t
        rw [hcr]
        iapply (Transfers.batch_creditUpdate EC (γ := γ) (γ₀ := γ₀) (N := N) (D := D) ⟨j + t.val, by have := t.isLt; omega⟩ (hD t))
        isplitr; · iexact Hinv
        iexact Hγt
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun j _ => hrow j)
    isplitr; · iexact Hinv
    iexact H3
  · iintro Hcred'
    iapply Hk
    iexists γ, γ₀, κ
    isplitr; · iexact Hinv
    isplitl [HI]; · iexact HI
    isplitl [H0]; · iexact H0
    rw [show (j + s.size hg.axis') * N - u = (j * N - u) + s.size hg.axis' * N by rw [Nat.add_mul]; omega, ← tallyAt_add]
    icombine Hcred Hcred' as H
    iexact H

end Cert.GatherBatch
-- ==== Proof.KITile.lean ====
/-
  The gather kernel's task on one vector subcore. The task does the same thing twice, once with the user table and once
  with the item table (`round`): it fetches its 512 row numbers, starts four gathers of 128 rows each on ONE semaphore,
  waits for all four, and copies the 512 rows out. The four gathers are one counted batch of 512 row transfers
  (`Cert.GatherBatch.wp_gatherBatch`); the rows come back at the last of the four waits. What the task leaves in its 512
  rows of the output is stated in full: row `512 * w + i` is the row of the table that entry `i` of its list names.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.PointwiseCore
public import proofs.«01_k».proof.Proof.GatherBatch
public import proofs.«01_k».proof.Proof.Gen.KernelIdeal
public import proofs.«01_k».proof.Proof.Gen.KernelIdeal.Skeleton

@[expose] public section

noncomputable section

namespace Cert.Proof.KITile

open Cert.KernelIdeal Cert.KernelIdeal.Gen Cert.GatherBatch

open Idealize.ShloMosaic
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, bigSep_insert (by decide), bigSep_insert (by decide), bigSep_insert (by decide), bigSep_singleton]
  rfl

/-! ## The pieces of the two scratch buffers -/

local notation "sV" => (Memref.whole Cert.KernelIdeal.cc0_scratch0 : Memref Cert.KernelIdeal.sig Kind.scVector Space.vmem Cert.KernelIdeal.S4x128 EltTy.i32)
local notation "rV" => (Memref.whole Cert.KernelIdeal.cc0_scratch1 : Memref Cert.KernelIdeal.sig Kind.scVector Space.vmem Cert.KernelIdeal.S512x128 EltTy.f32)

theorem inb_dst (j : Fin 4) : ∀ a, (![128 * j.val, 0] : Fin 2 → ℕ) a + S128x128.size a ≤ S512x128.size a := by revert j; decide
theorem inb_off (j : Fin 4) : ∀ a, (![j.val, 0] : Fin 2 → ℕ) a + S1x128.size a ≤ S4x128.size a := by revert j; decide

/-- Rows `128 j … 128 j + 127` of the row buffer, and row `j` of the list. -/
abbrev dstR (j : Fin 4) : Rect S512x128 := Rect.unit (s := S512x128) ![128 * j.val, 0] S128x128.size (inb_dst j)
abbrev offR (j : Fin 4) : Rect S4x128 := Rect.unit (s := S4x128) ![j.val, 0] S1x128.size (inb_off j)
abbrev dstK (j : Fin 4) : Memref sig .scVector .vmem S128x128 .f32 := (rV).slice (dstR j) (fun _ => rfl)
abbrev offK (j : Fin 4) : Memref sig .scVector .vmem S128 .i32 := ((sV).slice (offR j) (fun _ => rfl)).squeeze S128 squeezes_S1x128_S128

theorem ddiv : 4 ∣ S512x128.size 0 := ⟨128, rfl⟩
theorem sdiv : 4 ∣ S4x128.size 0 := ⟨1, rfl⟩

theorem dstR_eq (j : Fin 4) : dstR j = Rect.part (s := S512x128) (a₀ := 0) ddiv j := by
  unfold dstR Rect.part Rect.block
  congr 1 <;> funext a
  · match a with
    | 0 => simp [Shape.partIx, Shape.partSize]; omega
    | 1 => simp [Shape.partIx, Shape.partSize]
  · match a with
    | 0 => simp [Shape.partSize]
    | 1 => simp [Shape.partSize]
theorem offR_eq (j : Fin 4) : offR j = Rect.part (s := S4x128) (a₀ := 0) sdiv j := by
  unfold offR Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem set_dstK (j : Fin 4) : (dstK j).view.set = (Rect.part (s := S512x128) (a₀ := 0) ddiv j).set := by
  rw [← dstR_eq]; exact View.set_slice_whole _ _
theorem set_offK (j : Fin 4) : (offK j).view.set = (Rect.part (s := S4x128) (a₀ := 0) sdiv j).set := by
  rw [← offR_eq]
  show (((sV).view.slice (offR j)).reshape S128 squeezes_S1x128_S128.numel_eq).set = _
  rw [View.set_reshape]; exact View.set_slice_whole _ _

variable [FloatOps F]

section Round

variable (d : Dev nD) (L : grid0.Coords)

abbrev cV (L : grid0.Coords) : Fin τ.nSC := (L 0).castLE hcore0
abbrev jV (L : grid0.Coords) : Fin τ.nSub := (L 1).castLE hsub0

omit [FloatOps F] in
/-- The row buffer held whole is its four pieces held. -/
theorem pts_dst (f : Buf (Elt F) ((V d (cV L) (jV L)).loc cc0_scratch1)) :
    ((V d (cV L) (jV L)).loc cc0_scratch1 ↦{fullShare} f : sProp 𝕄)
      = bigSep Finset.univ fun j : Fin 4 => (dstK j).view.loc (V d (cV L) (jV L)) ↦[(dstK j).view.set]{fullShare} f := by
  have h : (Finset.univ : Finset (Fin 4)).biUnion (fun j => (dstK j).view.set) = Finset.univ :=
    (Finset.biUnion_congr rfl fun j _ => set_dstK j).trans (Rect.biUnion_part ddiv)
  refine Eq.trans ?_ (pointsTo_biUnion Finset.univ (ℓ := (V d (cV L) (jV L)).loc cc0_scratch1) (fun j : Fin 4 => (dstK j).view.set) ?_)
  · rw [h]
  · intro i _ j _ hij; rw [set_dstK, set_dstK]; exact Rect.part_disjoint ddiv hij

omit [FloatOps F] in
/-- The list held whole is its four rows held. -/
theorem pts_off (f : Buf (Elt F) ((V d (cV L) (jV L)).loc cc0_scratch0)) :
    ((V d (cV L) (jV L)).loc cc0_scratch0 ↦{fullShare} f : sProp 𝕄)
      = bigSep Finset.univ fun j : Fin 4 => (offK j).view.loc (V d (cV L) (jV L)) ↦[(offK j).view.set]{fullShare} f := by
  have h : (Finset.univ : Finset (Fin 4)).biUnion (fun j => (offK j).view.set) = Finset.univ :=
    (Finset.biUnion_congr rfl fun j _ => set_offK j).trans (Rect.biUnion_part sdiv)
  refine Eq.trans ?_ (pointsTo_biUnion Finset.univ (ℓ := (V d (cV L) (jV L)).loc cc0_scratch0) (fun j : Fin 4 => (offK j).view.set) ?_)
  · rw [h]
  · intro i _ j _ hij; rw [set_offK, set_offK]; exact Rect.part_disjoint sdiv hij

/-! ## One round: fetch the list, gather, copy out -/

abbrev idsK (iM : Memref sig .scVector .hbm S32x4x128 .i32) : Memref sig .scVector .hbm S4x128 .i32 :=
  (iM.slice (Rect.unit (s := S32x4x128) (k0_off1 L) S1x4x128.size (k0_off1_inb L)) (fun _ => rfl)).squeeze S4x128 squeezes_S1x4x128_S4x128
abbrev outK (oM : Memref sig .scVector .hbm S16384x128 .f32) : Memref sig .scVector .hbm S512x128 .f32 :=
  oM.slice (Rect.unit (s := S16384x128) (k0_off2 L) S512x128.size (k0_off2_inb L)) (fun _ => rfl)
abbrev tabK (tM : Memref sig .scVector .hbm S100000x128 .f32) : Memref sig .scVector .hbm S100000x128 .f32 :=
  tM.slice (Rect.unit (s := S100000x128) ![0, 0] S100000x128.size inb_S100000x128_S100000x128_0_0) (fun _ => rfl)

abbrev TP (L : grid0.Coords) (α : Type) : Type 1 := Prog (TpuEff nD τ sig (Elt F) Λ₀ (.scVector ((L 0).castLE hcore0) ((L 1).castLE hsub0))) α

/-- Gather `j`, and its wait. -/
def gth (tM : Memref sig .scVector .hbm S100000x128 .f32) (j : Fin 4) : TP (F := F) L PUnit :=
  SparseCore.enqueueIndirectGather rfl (tabK tM) (dstK j) gathers_S100000x128_S128x128 (offK j) rfl cc0_scratch2.sem (View.wordExact_bits rfl) rfl (Or.inl rfl)
def gwt (tM : Memref sig .scVector .hbm S100000x128 .f32) (j : Fin 4) : TP (F := F) L PUnit :=
  SparseCore.waitIndirectGather cc0_scratch2.sem (tabK tM) (dstK j) (View.wordExact_bits rfl) (View.wordExact_bits rfl)
def fetch (iM : Memref sig .scVector .hbm S32x4x128 .i32) (sA : DmaSems sig S_) : TP (F := F) L PUnit := do
  Prog.lift (.enqueueDma (idsK L iM) (.here sV) (.dma sA.sem) ((View.wordExact_bits rfl).reshape _ _) (Memref.isWhole_whole _).wordExact ⟨Or.inl rfl, trivial⟩)
  Prog.lift (.waitDma2 sA.sem (idsK L iM) sV ((View.wordExact_bits rfl).reshape _ _) (Memref.isWhole_whole _).wordExact)
def writeOut (oM : Memref sig .scVector .hbm S16384x128 .f32) (sB : DmaSems sig S_) : TP (F := F) L PUnit := do
  Prog.lift (.enqueueDma rV (.here (outK L oM)) (.dma sB.sem) (Memref.isWhole_whole _).wordExact (View.wordExact_bits rfl) ⟨Or.inl rfl, trivial⟩)
  Prog.lift (.waitDma2 sB.sem rV (outK L oM) (Memref.isWhole_whole _).wordExact (View.wordExact_bits rfl))
def gather4 (tM : Memref sig .scVector .hbm S100000x128 .f32) : TP (F := F) L PUnit := do
  gth L tM 0; gth L tM 1; gth L tM 2; gth L tM 3
  gwt L tM 0; gwt L tM 1; gwt L tM 2; gwt L tM 3

local notation "i1V" => (Memref.whole Cert.KernelIdeal.main_v0_scv : Memref Cert.KernelIdeal.sig Kind.scVector Space.hbm Cert.KernelIdeal.S32x4x128 EltTy.i32)
local notation "i2V" => (Memref.whole Cert.KernelIdeal.main_v1_scv : Memref Cert.KernelIdeal.sig Kind.scVector Space.hbm Cert.KernelIdeal.S32x4x128 EltTy.i32)
local notation "t1V" => (Memref.whole Cert.KernelIdeal.main_arg2_scv : Memref Cert.KernelIdeal.sig Kind.scVector Space.hbm Cert.KernelIdeal.S100000x128 EltTy.f32)
local notation "t2V" => (Memref.whole Cert.KernelIdeal.main_arg3_scv : Memref Cert.KernelIdeal.sig Kind.scVector Space.hbm Cert.KernelIdeal.S100000x128 EltTy.f32)
local notation "o1V" => (Memref.whole Cert.KernelIdeal.main_v2_0_scv : Memref Cert.KernelIdeal.sig Kind.scVector Space.hbm Cert.KernelIdeal.S16384x128 EltTy.f32)
local notation "o2V" => (Memref.whole Cert.KernelIdeal.main_v2_1_scv : Memref Cert.KernelIdeal.sig Kind.scVector Space.hbm Cert.KernelIdeal.S16384x128 EltTy.f32)

/-- The kernel on these buffers. -/
def body : TP (F := F) L PUnit :=
  cc0_gather_kernel L i1V (Memref.isWhole_whole _) i2V (Memref.isWhole_whole _) t1V (Memref.isWhole_whole _) t2V (Memref.isWhole_whole _)
    o1V (Memref.isWhole_whole _) o2V (Memref.isWhole_whole _) sV (Memref.isWhole_whole _) rV (Memref.isWhole_whole _)
    cc0_scratch2 cc0_scoped0 cc0_scoped1 cc0_scoped2 cc0_scoped3

set_option maxRecDepth 65536 in
/-- The kernel is its two rounds. -/
theorem body_eq : body (F := F) L = (do
    fetch L i1V cc0_scoped0
    gather4 L t1V
    writeOut L o1V cc0_scoped1
    fetch L i2V cc0_scoped2
    gather4 L t2V
    writeOut L o2V cc0_scoped3) := rfl

/-! ## The four gathers -/

abbrev hg : S100000x128.Gathers 0 S128x128 := gathers_S100000x128_S128x128

omit [FloatOps F] in
theorem four_pos : 0 < 4 := by decide
omit [FloatOps F] in
theorem ho : 0 < S128x128.size hg.axis' := by decide

theorem credit_row (j : Fin 4) (k : Fin (S128x128.size hg.axis')) :
    ((dstK j).slice (S128x128.rowRect hg.axis' k) (S128x128.stride_rowRect hg.axis' k)).view.dmaCredit = 4096 := by
  revert j k; decide
theorem credit_dst (j : Fin 4) : (dstK j).view.dmaCredit = 128 * 4096 := by revert j; decide

/-- The table's row a word names, the word read modulo the number of rows (a word below it names itself). -/
def rowIx (w : Elt F .i32) : Fin 100000 := ⟨w.toNat % 100000, Nat.mod_lt _ (by omega)⟩

/-- The row and the place in the row of entry `i` of 512. -/
def hi (x : Fin 512) : Fin 4 := ⟨x.val / 128, by omega⟩
def lo (x : Fin 512) : Fin 128 := ⟨x.val % 128, by omega⟩

/-- Row `i` of the gathered 512: the row of the table `t` that the list's entry `(i / 128, i % 128)` names. -/
def gfun (t : S100000x128.Idx → Elt F .f32) (ids : S4x128.Idx → Elt F .i32) : S512x128.Idx → Elt F .f32 :=
  fun x => t (ix2 (rowIx (ids (ix2 (hi (x 0)) (lo (x 0))))) (x 1 : Fin 128))

omit [FloatOps F] in
theorem offs_read (j : Fin 4) (ids : S4x128.Idx → Elt F .i32) (x : S128.Idx) :
    (offK j).view.read (Elt F) ids x = ids (ix2 j (x 0 : Fin 128)) := by
  rw [View.read_apply, cast_eq]
  have hx : (Shape.reshapeEquiv squeezes_S1x128_S128.numel_eq x : S1x128.Idx) = ix2 (0 : Fin 1) (x 0 : Fin 128) := by pointwise
  show ids ((offR j).emb (Shape.reshapeEquiv squeezes_S1x128_S128.numel_eq x)) = _
  rw [hx]
  congr 1
  funext a
  refine Fin.ext ((Rect.emb_apply (offR j) _ a).trans ?_)
  match a with
  | 0 => simp [offR, Rect.unit, ix2]
  | 1 => simp [offR, Rect.unit, ix2]

omit [FloatOps F] in
theorem offs_inb (j : Fin 4) (ids : S4x128.Idx → Elt F .i32) (hin : ∀ x, (ids x).toNat < 100000) (x : S128.Idx) :
    ((offK j).view.read (Elt F) ids x).toNat < S100000x128.size hg.axis := by
  rw [offs_read]; exact hin _

/-- What row `t` of the 512 delivers. -/
def del (tM : Memref sig .scVector .hbm S100000x128 .f32) (q : PosShare TreeShare) (ft : Buf (Elt F) ((tabK tM).view.loc (V d (cV L) (jV L))))
    (ids : S4x128.Idx → Elt F .i32) (hin : ∀ x, (ids x).toNat < 100000) (fr : Buf (Elt F) ((V d (cV L) (jV L)).loc cc0_scratch1))
    (j : Fin 4) (k : Fin (S128x128.size hg.axis')) : sProp 𝕄 :=
  rowDel (V d (cV L) (jV L)) (tabK tM) (dstK j) hg (offK j) rfl ho (pieceOf q 4 four_pos j) fullShare ft fr ids
    (rows ((offK j).view.read (Elt F) ids) rfl (offs_inb j ids hin)) k

def delAll (tM : Memref sig .scVector .hbm S100000x128 .f32) (q : PosShare TreeShare) (ft : Buf (Elt F) ((tabK tM).view.loc (V d (cV L) (jV L))))
    (ids : S4x128.Idx → Elt F .i32) (hin : ∀ x, (ids x).toNat < 100000) (fr : Buf (Elt F) ((V d (cV L) (jV L)).loc cc0_scratch1))
    (t : Fin (4 * 128)) : sProp 𝕄 :=
  del d L tM q ft ids hin fr (finProdFinEquiv.symm t).1 (finProdFinEquiv.symm t).2

instance del_storable (tM : Memref sig .scVector .hbm S100000x128 .f32) (q : PosShare TreeShare) (ft : Buf (Elt F) ((tabK tM).view.loc (V d (cV L) (jV L))))
    (ids : S4x128.Idx → Elt F .i32) (hin : ∀ x, (ids x).toNat < 100000) (fr : Buf (Elt F) ((V d (cV L) (jV L)).loc cc0_scratch1))
    (j : Fin 4) (k : Fin (S128x128.size hg.axis')) : Storable (upEmb : UEmb _ 𝕄) (del d L tM q ft ids hin fr j k) :=
  rowDel_storable (V d (cV L) (jV L)) (tabK tM) (dstK j) hg (offK j) rfl ho (pieceOf q 4 four_pos j) fullShare ft fr ids
    (rows ((offK j).view.read (Elt F) ids) rfl (offs_inb j ids hin)) k

instance delAll_storable (tM : Memref sig .scVector .hbm S100000x128 .f32) (q : PosShare TreeShare) (ft : Buf (Elt F) ((tabK tM).view.loc (V d (cV L) (jV L))))
    (ids : S4x128.Idx → Elt F .i32) (hin : ∀ x, (ids x).toNat < 100000) (fr : Buf (Elt F) ((V d (cV L) (jV L)).loc cc0_scratch1))
    (t : Fin (4 * 128)) : Storable (upEmb : UEmb _ 𝕄) (delAll d L tM q ft ids hin fr t) :=
  del_storable d L tM q ft ids hin fr _ _

variable (tM : Memref sig .scVector .hbm S100000x128 .f32) (q : PosShare TreeShare) (ft : Buf (Elt F) ((tabK tM).view.loc (V d (cV L) (jV L))))
  (ids : S4x128.Idx → Elt F .i32) (hin : ∀ x, (ids x).toNat < 100000) (fr : Buf (Elt F) ((V d (cV L) (jV L)).loc cc0_scratch1))

omit [FloatOps F] in
theorem del_delAll (j : Fin 4) (n : ℕ) (hn : n = 128 * j.val) (k : Fin 128) (h : n + k.val < 4 * 128) :
    del d L tM q ft ids hin fr j k ⊢ delAll d L tM q ft ids hin fr ⟨n + k.val, h⟩ := by
  subst hn
  have e : (⟨128 * j.val + k.val, h⟩ : Fin (4 * 128)) = finProdFinEquiv (j, k) := Fin.ext (by simp [finProdFinEquiv]; omega)
  unfold delAll
  rw [e, Equiv.symm_apply_apply]

omit [FloatOps F] in
/-- The gathered piece `j` is piece `j` of `gfun`. -/
theorem written_eq (j : Fin 4) : ∀ x ∈ (dstK j).view.set,
    ((dstK j).view.write (Elt F) fr (gatherPayload hg ((tabK tM).view.read (Elt F) ft) (rows ((offK j).view.read (Elt F) ids) rfl (offs_inb j ids hin))) Finset.univ) x
      = gfun ((tabK tM).view.read (Elt F) ft) ids x := by
  intro x hx
  obtain ⟨y, -, rfl⟩ := Finset.mem_map.mp hx
  rw [View.write_emb_of_mem _ _ (Finset.mem_univ y), cast_eq]
  obtain ⟨y0, y1, rfl⟩ : ∃ (y0 y1 : Fin 128), y = ix2 y0 y1 := ⟨y 0, y 1, eq_ix2 y⟩
  have e0 : (((dstK j).view.emb (ix2 y0 y1) : S512x128.Idx) 0).val = 128 * j.val + y0.val := by
    show ((dstR j).emb (ix2 y0 y1) 0).val = _
    rw [Rect.emb_apply]; simp [dstR, Rect.unit, ix2]
  have e1 : ((dstK j).view.emb (ix2 y0 y1) : S512x128.Idx) 1 = y1 := by
    apply Fin.ext
    show ((dstR j).emb (ix2 y0 y1) 1).val = _
    rw [Rect.emb_apply]; simp [dstR, Rect.unit, ix2]
  have hh : hi ((dstK j).view.emb (ix2 y0 y1) 0) = j := Fin.ext (by unfold hi; dsimp only; rw [e0]; omega)
  have hl : lo ((dstK j).view.emb (ix2 y0 y1) 0) = y0 := Fin.ext (by unfold lo; dsimp only; rw [e0]; omega)
  unfold gfun gatherPayload
  rw [hh, hl, e1]
  congr 1
  funext a
  match a with
  | 0 =>
    refine (Shape.Gathers.idx_axis hg _ _).trans (Fin.ext ?_)
    show ((offK j).view.read (Elt F) ids (S128.rowMajor.symm _)).toNat = (rowIx (ids (ix2 j y0))).val
    rw [offs_read]
    have h1 : S128.rowMajor.symm (Fin.cast (rfl : S128x128.size hg.axis' = S128.numel) y0) = ix1 y0 := by
      rw [Equiv.symm_apply_eq]; apply Fin.ext; rw [Shape.rowMajor_val_one]; rfl
    show (ids (ix2 j (S128.rowMajor.symm (Fin.cast (rfl : S128x128.size hg.axis' = S128.numel) y0) 0))).toNat = _
    rw [h1]
    exact (Nat.mod_eq_of_lt (hin _)).symm
  | 1 => exact Fin.ext (Shape.Gathers.idx_of_ne hg _ _ 1 (by decide))

omit [FloatOps F] in
/-- All 512 rows delivered: the row buffer at `gfun`, the table's share and the list back. -/
theorem delAll_join :
    bigSep Finset.univ (delAll d L tM q ft ids hin fr)
      ⊢ iprop(((tabK tM).view.loc (V d (cV L) (jV L)) ↦[(tabK tM).view.set]{q} ft)
          ∗ ((V d (cV L) (jV L)).loc cc0_scratch0 ↦{fullShare} (ids : Buf (Elt F) ((V d (cV L) (jV L)).loc cc0_scratch0)))
          ∗ ((V d (cV L) (jV L)).loc cc0_scratch1 ↦{fullShare} (gfun ((tabK tM).view.read (Elt F) ft) ids : Buf (Elt F) ((V d (cV L) (jV L)).loc cc0_scratch1)))) := by
  have e : bigSep Finset.univ (delAll d L tM q ft ids hin fr)
      = bigSep Finset.univ fun j : Fin 4 => bigSep Finset.univ (del d L tM q ft ids hin fr j) := by
    rw [bigSep_univ_equiv (finProdFinEquiv : Fin 4 × Fin 128 ≃ _), bigSep_univ_prod]
    refine bigSep_congr fun j _ => bigSep_congr fun k _ => ?_
    unfold delAll; rw [Equiv.symm_apply_apply]
  rw [e]
  have h1 : (bigSep Finset.univ fun j : Fin 4 => bigSep Finset.univ (del d L tM q ft ids hin fr j))
      ⊢ iprop((bigSep Finset.univ fun j : Fin 4 => (dstK j).view.loc (V d (cV L) (jV L)) ↦[(dstK j).view.set]{fullShare}
            ((dstK j).view.write (Elt F) fr (gatherPayload hg ((tabK tM).view.read (Elt F) ft) (rows ((offK j).view.read (Elt F) ids) rfl (offs_inb j ids hin))) Finset.univ))
          ∗ (bigSep Finset.univ fun j : Fin 4 => (tabK tM).view.loc (V d (cV L) (jV L)) ↦[(tabK tM).view.set]{pieceOf q 4 four_pos j} ft)
          ∗ (bigSep Finset.univ fun j : Fin 4 => (offK j).view.loc (V d (cV L) (jV L)) ↦[(offK j).view.set]{fullShare} ids)) := by
    have h0 : (bigSep Finset.univ fun j : Fin 4 => bigSep Finset.univ (del d L tM q ft ids hin fr j))
      ⊢ (bigSep Finset.univ fun j : Fin 4 => iprop(((dstK j).view.loc (V d (cV L) (jV L)) ↦[(dstK j).view.set]{fullShare}
            ((dstK j).view.write (Elt F) fr (gatherPayload hg ((tabK tM).view.read (Elt F) ft) (rows ((offK j).view.read (Elt F) ids) rfl (offs_inb j ids hin))) Finset.univ))
          ∗ ((tabK tM).view.loc (V d (cV L) (jV L)) ↦[(tabK tM).view.set]{pieceOf q 4 four_pos j} ft)
          ∗ ((offK j).view.loc (V d (cV L) (jV L)) ↦[(offK j).view.set]{fullShare} ids))) :=
     bigSep_mono fun j _ => (show bigSep Finset.univ (del d L tM q ft ids hin fr j) ⊢ _ from
      rowDel_join (V d (cV L) (jV L)) (tabK tM) (dstK j) hg (offK j) rfl ho (pieceOf q 4 four_pos j) fullShare ft fr ids
        (rows ((offK j).view.read (Elt F) ids) rfl (offs_inb j ids hin)))
    refine h0.trans (Entails.of_eq ?_)
    rw [bigSep_sep', bigSep_sep']
  iintro HD
  ihave H := h1 $$ HD
  icases H with ⟨HA, HB, HC⟩
  isplitl [HB]; · iapply (Entails.of_eq (pointsTo_piecesOf (tabK tM).view.set ft (o := 4) four_pos q).symm) $$ HB
  isplitl [HC]; · iapply (Entails.of_eq (pts_off d L ids).symm) $$ HC
  iapply (Entails.of_eq ((pts_dst d L _).trans (bigSep_congr fun j (_ : j ∈ Finset.univ) =>
    (pointsTo_congr (q := fullShare) (written_eq d L tM ft ids hin fr j)).symm)).symm) $$ HA

/-- A gather's wait that does not drain the cell. -/
theorem wp_gwt {n : ℕ} {Dl : Fin n → sProp 𝕄} {u i : ℕ} (j : Fin 4) (hu : u + 128 * 4096 ≤ 4096 * i) {α : Type} {Q : α → sProp 𝕄}
    {k : PUnit → TP (F := F) L α} {O : CellTallies nD τ sig (HIx 1)} {W : Waits sig (HIx 1)} :
    iprop(Transfers.Batch EC (V d (cV L) (jV L)) (.dma cc0_scratch2.sem) (default : HIx 1) 4096 Dl i u ∗ owes (V d (cV L) (jV L)) O W
        ∗ MayWait (V d (cV L) (jV L)) (.dma cc0_scratch2.sem) (default : HIx 1) O)
      ⊢ iprop((iprop(Transfers.Batch EC (V d (cV L) (jV L)) (.dma cc0_scratch2.sem) (default : HIx 1) 4096 Dl i (u + 128 * 4096)
            ∗ owes (V d (cV L) (jV L)) O (insert (SemLoc.dma cc0_scratch2.sem, default) W)) -∗ wp frame (wpE (defs₀ (F := F)) 𝒱₀ (V d (cV L) (jV L)) none) Set.univ (k ⟨⟩) Q)
          -∗ wp frame (wpE (defs₀ (F := F)) 𝒱₀ (V d (cV L) (jV L)) none) Set.univ (gwt L tM j >>= k) Q) :=
  Transfers.wp_waitBatchMulO EC 𝒱₀ (V d (cV L) (jV L)) none (srcw := tabK tM) (dstw := dstK j) (default : HIx 1) 128 (credit_dst j) hu

/-- The last wait. -/
theorem wp_gwt_last {n : ℕ} {Dl : Fin n → sProp 𝕄} {u : ℕ} (j : Fin 4) (hu : u + 128 * 4096 = 4096 * n) {Q : PUnit → sProp 𝕄}
    {O : CellTallies nD τ sig (HIx 1)} {W : Waits sig (HIx 1)} :
    iprop(Transfers.Batch EC (V d (cV L) (jV L)) (.dma cc0_scratch2.sem) (default : HIx 1) 4096 Dl n u ∗ owes (V d (cV L) (jV L)) O W
        ∗ MayWait (V d (cV L) (jV L)) (.dma cc0_scratch2.sem) (default : HIx 1) O)
      ⊢ iprop((iprop(bigSep Finset.univ Dl ∗ semVal ((V d (cV L) (jV L)), .dma cc0_scratch2.sem) 0
            ∗ owes (V d (cV L) (jV L)) O (insert (SemLoc.dma cc0_scratch2.sem, default) W)) -∗ wp frame (wpE (defs₀ (F := F)) 𝒱₀ (V d (cV L) (jV L)) none) Set.univ (.ret ⟨⟩) Q)
          -∗ wp frame (wpE (defs₀ (F := F)) 𝒱₀ (V d (cV L) (jV L)) none) Set.univ (gwt L tM j) Q) := by
  unfold gwt SparseCore.waitIndirectGather
  exact Transfers.wp_waitBatchAllO EC 𝒱₀ (V d (cV L) (jV L)) none (Q := Q) (D := Dl) (u := u) (O := O) (W := W) (srcw := tabK tM) (dstw := dstK j) (k := fun _ => .ret ⟨⟩) (default : HIx 1) (credit_dst j) (by omega) hu

/-- One gather of the four. -/
theorem wp_gth (j : Fin 4) (n n' : ℕ) (hn : n = 128 * j.val) (hn' : n + 128 = n') {α : Type} {Q : α → sProp 𝕄} {k : PUnit → TP (F := F) L α} :
    iprop(((tabK tM).view.loc (V d (cV L) (jV L)) ↦[(tabK tM).view.set]{pieceOf q 4 four_pos j} ft)
        ∗ ((dstK j).view.loc (V d (cV L) (jV L)) ↦[(dstK j).view.set]{fullShare} fr)
        ∗ ((offK j).view.loc (V d (cV L) (jV L)) ↦[(offK j).view.set]{fullShare} ids)
        ∗ Transfers.Batch EC (V d (cV L) (jV L)) (.dma cc0_scratch2.sem) (default : HIx 1) 4096 (delAll d L tM q ft ids hin fr) n 0)
      ⊢ iprop((Transfers.Batch EC (V d (cV L) (jV L)) (.dma cc0_scratch2.sem) (default : HIx 1) 4096 (delAll d L tM q ft ids hin fr) n' 0
            -∗ wp frame (wpE (defs₀ (F := F)) 𝒱₀ (V d (cV L) (jV L)) none) Set.univ (k ⟨⟩) Q)
          -∗ wp frame (wpE (defs₀ (F := F)) 𝒱₀ (V d (cV L) (jV L)) none) Set.univ (gth L tM j >>= k) Q) := by
  subst hn'
  exact wp_gatherBatch EC 𝒱₀ (V d (cV L) (jV L)) none (src := tabK tM) (dst := dstK j) (hg := hg) (offs := offK j) (default : HIx 1) 4096 (credit_row j)
    (by decide) (offs_inb j ids hin) ho rfl (by have := j.isLt; omega) (by omega)
    (fun t => del_delAll d L tM q ft ids hin fr j n hn t _)

include hin in
set_option maxHeartbeats 1000000 in
/-- The four gathers and their waits: the row buffer at the rows the list names. -/
theorem wp_gather4 (O : CellTallies nD τ sig (HIx 1)) (W : Waits sig (HIx 1)) (hO : ∀ g, O g none = 0) :
    iprop(levAts (K (F := F)).L (K (F := F)).lev
        ∗ ((tabK tM).view.loc (V d (cV L) (jV L)) ↦[(tabK tM).view.set]{q} ft : sProp 𝕄)
        ∗ ((V d (cV L) (jV L)).loc cc0_scratch0 ↦{fullShare} (ids : Buf (Elt F) ((V d (cV L) (jV L)).loc cc0_scratch0)))
        ∗ ((V d (cV L) (jV L)).loc cc0_scratch1 ↦{fullShare} fr)
        ∗ semVal ((V d (cV L) (jV L)), .dma cc0_scratch2.sem) 0 ∗ owes (V d (cV L) (jV L)) O W)
      ⊢ wp frame (wpE (defs₀ (F := F)) 𝒱₀ (V d (cV L) (jV L)) none) Set.univ (gather4 L tM)
          fun _ => iprop(((tabK tM).view.loc (V d (cV L) (jV L)) ↦[(tabK tM).view.set]{q} ft)
            ∗ ((V d (cV L) (jV L)).loc cc0_scratch0 ↦{fullShare} (ids : Buf (Elt F) ((V d (cV L) (jV L)).loc cc0_scratch0)))
            ∗ ((V d (cV L) (jV L)).loc cc0_scratch1 ↦{fullShare} (gfun ((tabK tM).view.read (Elt F) ft) ids : Buf (Elt F) ((V d (cV L) (jV L)).loc cc0_scratch1)))
            ∗ semVal ((V d (cV L) (jV L)), .dma cc0_scratch2.sem) 0
            ∗ ∃ W', ⌜∀ p ∈ W', p ∈ W ∨ p.2 = none⌝ ∗ owes (V d (cV L) (jV L)) O W') := by
  iintro ⟨#Hlv, Ht, Hs, Hr, Hsem, HO⟩
  ihave #Hmw := (show levAts (K (F := F)).L (K (F := F)).lev ⊢ Transfers.MayWaits (V d (cV L) (jV L)) (default : HIx 1) O from
    (K (F := F)).mayWaits_none (thr := V d (cV L) (jV L)) hO) $$ Hlv
  ihave Ht4 := (Entails.of_eq ((pointsTo_piecesOf (tabK tM).view.set ft (o := 4) four_pos q).trans (bigSep_four _))) $$ Ht
  ihave Hs4 := (Entails.of_eq ((pts_off d L ids).trans (bigSep_four _))) $$ Hs
  ihave Hr4 := (Entails.of_eq ((pts_dst d L fr).trans (bigSep_four _))) $$ Hr
  icases Ht4 with ⟨Ht0, Ht1, Ht2, Ht3⟩
  icases Hs4 with ⟨Hs0, Hs1, Hs2, Hs3⟩
  icases Hr4 with ⟨Hr0, Hr1, Hr2, Hr3⟩
  imod (Transfers.batch_alloc' EC (V d (cV L) (jV L)) (sm := .dma cc0_scratch2.sem) (default : HIx 1) 4096 (delAll d L tM q ft ids hin fr) (E := Set.univ)) $$ Hsem with HB
  unfold gather4
  iapply (wp_gth d L tM q ft ids hin fr 0 0 128 rfl rfl) $$ [Ht0 Hr0 Hs0 HB]
  · isplitl [Ht0]; · iexact Ht0
    isplitl [Hr0]; · iexact Hr0
    isplitl [Hs0] <;> iassumption
  iintro HB
  iapply (wp_gth d L tM q ft ids hin fr 1 128 256 rfl rfl) $$ [Ht1 Hr1 Hs1 HB]
  · isplitl [Ht1]; · iexact Ht1
    isplitl [Hr1]; · iexact Hr1
    isplitl [Hs1] <;> iassumption
  iintro HB
  iapply (wp_gth d L tM q ft ids hin fr 2 256 384 rfl rfl) $$ [Ht2 Hr2 Hs2 HB]
  · isplitl [Ht2]; · iexact Ht2
    isplitl [Hr2]; · iexact Hr2
    isplitl [Hs2] <;> iassumption
  iintro HB
  iapply (wp_gth d L tM q ft ids hin fr 3 384 512 rfl rfl) $$ [Ht3 Hr3 Hs3 HB]
  · isplitl [Ht3]; · iexact Ht3
    isplitl [Hr3]; · iexact Hr3
    isplitl [Hs3] <;> iassumption
  iintro HB
  iapply (wp_gwt d L tM (Dl := delAll d L tM q ft ids hin fr) (u := 0) (i := 512) 0 (by omega)) $$ [HB HO]
  · isplitl [HB]; · iexact HB
    isplitl [HO]; · iexact HO
    iapply (Transfers.MayWaits.elim (SemLoc.dma cc0_scratch2.sem)) $$ Hmw
  iintro ⟨HB, HO⟩
  iapply (wp_gwt d L tM (Dl := delAll d L tM q ft ids hin fr) (u := 0 + 128 * 4096) (i := 512) 1 (by omega)) $$ [HB HO]
  · isplitl [HB]; · iexact HB
    isplitl [HO]; · iexact HO
    iapply (Transfers.MayWaits.elim (SemLoc.dma cc0_scratch2.sem)) $$ Hmw
  iintro ⟨HB, HO⟩
  iapply (wp_gwt d L tM (Dl := delAll d L tM q ft ids hin fr) (u := 0 + 128 * 4096 + 128 * 4096) (i := 512) 2 (by omega)) $$ [HB HO]
  · isplitl [HB]; · iexact HB
    isplitl [HO]; · iexact HO
    iapply (Transfers.MayWaits.elim (SemLoc.dma cc0_scratch2.sem)) $$ Hmw
  iintro ⟨HB, HO⟩
  iapply (wp_gwt_last d L tM (Dl := delAll d L tM q ft ids hin fr) (u := 0 + 128 * 4096 + 128 * 4096 + 128 * 4096) 3 (by omega)) $$ [HB HO]
  · isplitl [HB]; · iexact HB
    isplitl [HO]; · iexact HO
    iapply (Transfers.MayWaits.elim (SemLoc.dma cc0_scratch2.sem)) $$ Hmw
  iintro ⟨HD, Hsem, HO⟩
  ihave HD' := (delAll_join d L tM q ft ids hin fr) $$ HD
  icases HD' with ⟨Ht, Hs, Hr⟩
  rw [wp_ret]; imodintro
  isplitl [Ht]; · iexact Ht
  isplitl [Hs]; · iexact Hs
  isplitl [Hr]; · iexact Hr
  isplitl [Hsem]; · iexact Hsem
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The list fetched, the rows copied out -/

set_option maxHeartbeats 1000000 in
theorem wp_fetch (iM : Memref sig .scVector .hbm S32x4x128 .i32) (sA : DmaSems sig S_) (fi : Buf (Elt F) ((idsK L iM).view.loc (V d (cV L) (jV L))))
    (fs : Buf (Elt F) ((V d (cV L) (jV L)).loc cc0_scratch0)) (O : CellTallies nD τ sig (HIx 1)) (W : Waits sig (HIx 1)) (hO : ∀ g, O g none = 0) :
    iprop(levAts (K (F := F)).L (K (F := F)).lev
        ∗ ((idsK L iM).view.loc (V d (cV L) (jV L)) ↦[(idsK L iM).view.set]{fullShare} fi : sProp 𝕄)
        ∗ ((V d (cV L) (jV L)).loc cc0_scratch0 ↦{fullShare} fs)
        ∗ semVal ((V d (cV L) (jV L)), .dma sA.sem) 0 ∗ owes (V d (cV L) (jV L)) O W)
      ⊢ wp frame (wpE (defs₀ (F := F)) 𝒱₀ (V d (cV L) (jV L)) none) Set.univ (fetch L iM sA)
          fun _ => iprop(((idsK L iM).view.loc (V d (cV L) (jV L)) ↦[(idsK L iM).view.set]{fullShare} fi)
            ∗ ((V d (cV L) (jV L)).loc cc0_scratch0 ↦{fullShare} ((idsK L iM).view.read (Elt F) fi : Buf (Elt F) ((V d (cV L) (jV L)).loc cc0_scratch0)))
            ∗ semVal ((V d (cV L) (jV L)), .dma sA.sem) 0
            ∗ ∃ W', ⌜∀ p ∈ W', p ∈ W ∨ p.2 = none⌝ ∗ owes (V d (cV L) (jV L)) O W') := by
  unfold fetch
  iintro ⟨#Hlv, Hi, Hs, Hsem, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hs' := (Entails.of_eq (show ((V d (cV L) (jV L)).loc cc0_scratch0 ↦{fullShare} fs : sProp 𝕄) = ((sV).view.loc (V d (cV L) (jV L)) ↦{fullShare} fs) from rfl)) $$ Hs
  sl_exec
  sl_step
  isplitl [Hi]; · iexact Hi
  isplitl [Hs']
  · rw [View.write_whole_univ]; iexact Hs'
  isplitl [Hsem]; · iexact Hsem
  iexists _; isplitr
  swap; · iexact HO
  ipureintro; intro p hp
  rcases Finset.mem_insert.mp hp with hp | hp; · exact .inr (hp ▸ rfl)
  exact .inl hp

set_option maxHeartbeats 1000000 in
theorem wp_writeOut (oM : Memref sig .scVector .hbm S16384x128 .f32) (sB : DmaSems sig S_) (fo : Buf (Elt F) ((outK L oM).view.loc (V d (cV L) (jV L))))
    (fr : Buf (Elt F) ((V d (cV L) (jV L)).loc cc0_scratch1)) (O : CellTallies nD τ sig (HIx 1)) (W : Waits sig (HIx 1)) (hO : ∀ g, O g none = 0) :
    iprop(levAts (K (F := F)).L (K (F := F)).lev
        ∗ ((outK L oM).view.loc (V d (cV L) (jV L)) ↦[(outK L oM).view.set]{fullShare} fo : sProp 𝕄)
        ∗ ((V d (cV L) (jV L)).loc cc0_scratch1 ↦{fullShare} fr)
        ∗ semVal ((V d (cV L) (jV L)), .dma sB.sem) 0 ∗ owes (V d (cV L) (jV L)) O W)
      ⊢ wp frame (wpE (defs₀ (F := F)) 𝒱₀ (V d (cV L) (jV L)) none) Set.univ (writeOut L oM sB)
          fun _ => iprop(((outK L oM).view.loc (V d (cV L) (jV L)) ↦[(outK L oM).view.set]{fullShare} ((outK L oM).view.writes (Elt F) fo [⟨Rect.whole S512x128, fr⟩]))
            ∗ ((V d (cV L) (jV L)).loc cc0_scratch1 ↦{fullShare} fr)
            ∗ semVal ((V d (cV L) (jV L)), .dma sB.sem) 0
            ∗ ∃ W', ⌜∀ p ∈ W', p ∈ W ∨ p.2 = none⌝ ∗ owes (V d (cV L) (jV L)) O W') := by
  unfold writeOut
  iintro ⟨#Hlv, Ho, Hr, Hsem, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hr' := (Entails.of_eq (show ((V d (cV L) (jV L)).loc cc0_scratch1 ↦{fullShare} fr : sProp 𝕄) = ((rV).view.loc (V d (cV L) (jV L)) ↦{fullShare} fr) from rfl)) $$ Hr
  sl_exec
  sl_step
  isplitl [Ho]; · iexact Ho
  isplitl [Hr']; · iexact Hr'
  isplitl [Hsem]; · iexact Hsem
  iexists _; isplitr
  swap; · iexact HO
  ipureintro; intro p hp
  rcases Finset.mem_insert.mp hp with hp | hp; · exact .inr (hp ▸ rfl)
  exact .inl hp

end Round

end Cert.Proof.KITile
-- ==== Proof.KICall.lean ====
/-
  The gather call as a whole. Every one of the 32 tasks takes its row of the two id arrays, a share of each table (all of
  it, read by every task at once) and its 512 rows of the two outputs; it brings them back with the outputs at the table
  rows the ids name (`gath`). The thirty-two blocks of rows make up the whole outputs.
-/
module

public import proofs.«01_k».proof.Proof.KITile

@[expose] public section

noncomputable section

namespace Cert.Proof.KITile

open Cert.KernelIdeal Cert.KernelIdeal.Gen Cert.GatherBatch

open Idealize.ShloMosaic
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "sV" => (Memref.whole Cert.KernelIdeal.cc0_scratch0 : Memref Cert.KernelIdeal.sig Kind.scVector Space.vmem Cert.KernelIdeal.S4x128 EltTy.i32)
local notation "rV" => (Memref.whole Cert.KernelIdeal.cc0_scratch1 : Memref Cert.KernelIdeal.sig Kind.scVector Space.vmem Cert.KernelIdeal.S512x128 EltTy.f32)
local notation "i1V" => (Memref.whole Cert.KernelIdeal.main_v0_scv : Memref Cert.KernelIdeal.sig Kind.scVector Space.hbm Cert.KernelIdeal.S32x4x128 EltTy.i32)
local notation "i2V" => (Memref.whole Cert.KernelIdeal.main_v1_scv : Memref Cert.KernelIdeal.sig Kind.scVector Space.hbm Cert.KernelIdeal.S32x4x128 EltTy.i32)
local notation "t1V" => (Memref.whole Cert.KernelIdeal.main_arg2_scv : Memref Cert.KernelIdeal.sig Kind.scVector Space.hbm Cert.KernelIdeal.S100000x128 EltTy.f32)
local notation "t2V" => (Memref.whole Cert.KernelIdeal.main_arg3_scv : Memref Cert.KernelIdeal.sig Kind.scVector Space.hbm Cert.KernelIdeal.S100000x128 EltTy.f32)
local notation "o1V" => (Memref.whole Cert.KernelIdeal.main_v2_0_scv : Memref Cert.KernelIdeal.sig Kind.scVector Space.hbm Cert.KernelIdeal.S16384x128 EltTy.f32)
local notation "o2V" => (Memref.whole Cert.KernelIdeal.main_v2_1_scv : Memref Cert.KernelIdeal.sig Kind.scVector Space.hbm Cert.KernelIdeal.S16384x128 EltTy.f32)

/-! ## The buffers and their parts -/

abbrev i1Loc (d : Dev nD) : Loc nD τ sig := (SparseCore.T d).loc main_v0
abbrev i2Loc (d : Dev nD) : Loc nD τ sig := (SparseCore.T d).loc main_v1
abbrev t1Loc (d : Dev nD) : Loc nD τ sig := (SparseCore.T d).loc main_arg2
abbrev t2Loc (d : Dev nD) : Loc nD τ sig := (SparseCore.T d).loc main_arg3
abbrev o1Loc (d : Dev nD) : Loc nD τ sig := (SparseCore.T d).loc main_v2_0
abbrev o2Loc (d : Dev nD) : Loc nD τ sig := (SparseCore.T d).loc main_v2_1

theorem idiv : 32 ∣ S32x4x128.size 0 := ⟨1, rfl⟩
theorem odiv : 32 ∣ S16384x128.size 0 := ⟨512, rfl⟩
theorem tpos : 0 < 32 := by decide
abbrev iSet (w : Fin 32) : Finset S32x4x128.Idx := (Rect.part (s := S32x4x128) (a₀ := 0) idiv w).set
abbrev oSet (w : Fin 32) : Finset S16384x128.Idx := (Rect.part (s := S16384x128) (a₀ := 0) odiv w).set

/-- The worker number of subcore `i` of SparseCore `c`. -/
def wid (c : Fin 2) (i : Fin 16) : Fin 32 := ⟨2 * i.val + c.val, by omega⟩

/-- The three coordinates of row `x`'s id in the ids' array. -/
def x0 (x : Fin 16384) : Fin 32 := ⟨x.val / 512, by omega⟩
def x1 (x : Fin 16384) : Fin 4 := ⟨x.val % 512 / 128, by omega⟩
def x2 (x : Fin 16384) : Fin 128 := ⟨x.val % 128, by omega⟩

/-- The gathered rows: row `x` is the row of the table that id number `x` names. -/
def gath (t : S100000x128.Idx → Elt F .f32) (u : S32x4x128.Idx → Elt F .i32) : S16384x128.Idx → Elt F .f32 :=
  fun x => t (ix2 (rowIx (u (ix3 (x0 (x 0)) (x1 (x 0)) (x2 (x 0))))) (x 1 : Fin 128))

section Parts

variable (d : Dev nD) (L : grid0.Coords)

/-- The worker number of the task at grid point `L`. -/
abbrev wL (L : grid0.Coords) : Fin 32 := wid (L 0) (L 1)

theorem wL_val : (wL L).val = 2 * (L 1).val + (L 0).val := rfl
theorem off1_0 : k0_off1 L 0 = (wL L).val := by rw [k0_off1_eq, wL_val]; simp
theorem off1_1 : k0_off1 L 1 = 0 := by rw [k0_off1_eq]; simp
theorem off1_2 : k0_off1 L 2 = 0 := by rw [k0_off1_eq]; simp
theorem off2_0 : k0_off2 L 0 = 512 * (wL L).val := by rw [k0_off2_eq, wL_val]; simp; omega
theorem off2_1 : k0_off2 L 1 = 0 := by rw [k0_off2_eq]; simp

theorem ids_eq : Rect.unit (s := S32x4x128) (k0_off1 L) S1x4x128.size (k0_off1_inb L) = Rect.part (s := S32x4x128) (a₀ := 0) idiv (wL L) := by
  unfold Rect.part Rect.block
  congr 1 <;> funext a
  · match a with
    | 0 => exact (off1_0 L).trans (by simp [Shape.partIx, Shape.partSize])
    | 1 => exact (off1_1 L).trans (by simp [Shape.partIx, Shape.partSize])
    | 2 => exact (off1_2 L).trans (by simp [Shape.partIx, Shape.partSize])
  · match a with
    | 0 => simp [Shape.partSize]
    | 1 => simp [Shape.partSize]
    | 2 => simp [Shape.partSize]
theorem out_eq : Rect.unit (s := S16384x128) (k0_off2 L) S512x128.size (k0_off2_inb L) = Rect.part (s := S16384x128) (a₀ := 0) odiv (wL L) := by
  unfold Rect.part Rect.block
  congr 1 <;> funext a
  · match a with
    | 0 => exact (off2_0 L).trans (by simp [Shape.partIx, Shape.partSize]; omega)
    | 1 => exact (off2_1 L).trans (by simp [Shape.partIx, Shape.partSize])
  · match a with
    | 0 => simp [Shape.partSize]
    | 1 => simp [Shape.partSize]

theorem set_i1 : (idsK L i1V).view.set = iSet (wL L) := by
  show (((i1V).view.slice (Rect.unit (s := S32x4x128) (k0_off1 L) S1x4x128.size (k0_off1_inb L))).reshape S4x128 squeezes_S1x4x128_S4x128.numel_eq).set = _
  rw [View.set_reshape]; unfold iSet; rw [← ids_eq]; exact View.set_slice_whole _ _
theorem set_i2 : (idsK L i2V).view.set = iSet (wL L) := by
  show (((i2V).view.slice (Rect.unit (s := S32x4x128) (k0_off1 L) S1x4x128.size (k0_off1_inb L))).reshape S4x128 squeezes_S1x4x128_S4x128.numel_eq).set = _
  rw [View.set_reshape]; unfold iSet; rw [← ids_eq]; exact View.set_slice_whole _ _
theorem set_o1 : (outK L o1V).view.set = oSet (wL L) := by
  unfold oSet; rw [← out_eq]; exact View.set_slice_whole _ _
theorem set_o2 : (outK L o2V).view.set = oSet (wL L) := by
  unfold oSet; rw [← out_eq]; exact View.set_slice_whole _ _

theorem tab_emb (x : S100000x128.Idx) :
    (Rect.unit (s := S100000x128) ![0, 0] S100000x128.size inb_S100000x128_S100000x128_0_0).emb x = x := by
  funext a
  refine Fin.ext ((Rect.emb_apply _ _ a).trans ?_)
  match a with
  | 0 => simp [Rect.unit]
  | 1 => simp [Rect.unit]
theorem tab_set : (Rect.unit (s := S100000x128) ![0, 0] S100000x128.size inb_S100000x128_S100000x128_0_0).set = Finset.univ := by
  rw [← Rect.map_emb_univ]
  exact Finset.eq_univ_iff_forall.mpr fun x => Finset.mem_map.mpr ⟨x, Finset.mem_univ _, tab_emb x⟩
theorem set_t1 : (tabK t1V).view.set = Finset.univ := (View.set_slice_whole _ _).trans tab_set
theorem set_t2 : (tabK t2V).view.set = Finset.univ := (View.set_slice_whole _ _).trans tab_set
theorem read_t1 (f : S100000x128.Idx → Elt F .f32) : (tabK t1V).view.read (Elt F) f = f := by
  funext x; rw [View.read_apply, cast_eq]; exact congrArg f (tab_emb x)
theorem read_t2 (f : S100000x128.Idx → Elt F .f32) : (tabK t2V).view.read (Elt F) f = f := by
  funext x; rw [View.read_apply, cast_eq]; exact congrArg f (tab_emb x)

theorem ids_emb (a : Fin 4) (b : Fin 128) :
    (Rect.unit (s := S32x4x128) (k0_off1 L) S1x4x128.size (k0_off1_inb L)).emb
      (Shape.reshapeEquiv squeezes_S1x4x128_S4x128.numel_eq (ix2 a b) : S1x4x128.Idx) = ix3 (wL L) a b := by
  have hx : (Shape.reshapeEquiv squeezes_S1x4x128_S4x128.numel_eq (ix2 a b) : S1x4x128.Idx) = ix3 (0 : Fin 1) a b := by pointwise
  rw [hx]
  funext c
  refine Fin.ext ((Rect.emb_apply _ _ c).trans ?_)
  match c with
  | 0 => exact (congrArg (· + _) (off1_0 L)).trans (by simp [Rect.unit, ix3])
  | 1 => exact (congrArg (· + _) (off1_1 L)).trans (by simp [Rect.unit, ix3])
  | 2 => exact (congrArg (· + _) (off1_2 L)).trans (by simp [Rect.unit, ix3])
theorem read_i1 (u : S32x4x128.Idx → Elt F .i32) (a : Fin 4) (b : Fin 128) : (idsK L i1V).view.read (Elt F) u (ix2 a b) = u (ix3 (wL L) a b) := by
  rw [View.read_apply, cast_eq]; exact congrArg u (ids_emb L a b)
theorem read_i2 (u : S32x4x128.Idx → Elt F .i32) (a : Fin 4) (b : Fin 128) : (idsK L i2V).view.read (Elt F) u (ix2 a b) = u (ix3 (wL L) a b) := by
  rw [View.read_apply, cast_eq]; exact congrArg u (ids_emb L a b)

theorem ids_lt (r : S4x128.Idx → Elt F .i32) (u : S32x4x128.Idx → Elt F .i32) (hr : ∀ a b, r (ix2 a b) = u (ix3 (wL L) a b))
    (hu : ∀ x, (u x).toNat < 100000) (x : S4x128.Idx) : (r x).toNat < 100000 := by
  obtain ⟨a, b, rfl⟩ : ∃ (a : Fin 4) (b : Fin 128), x = ix2 a b := ⟨x 0, x 1, eq_ix2 x⟩
  rw [hr]; exact hu _

/-- Rows `512 w …` of the output, written with what the task gathered, are those rows of `gath`. -/
theorem gfun_gath (t : S100000x128.Idx → Elt F .f32) (r : S4x128.Idx → Elt F .i32) (u : S32x4x128.Idx → Elt F .i32) (hr : ∀ a b, r (ix2 a b) = u (ix3 (wL L) a b))
    (y : S512x128.Idx) :
    gfun t r y = gath t u ((Rect.unit (s := S16384x128) (k0_off2 L) S512x128.size (k0_off2_inb L)).emb y) := by
  obtain ⟨y0, y1, rfl⟩ : ∃ (y0 : Fin 512) (y1 : Fin 128), y = ix2 y0 y1 := ⟨y 0, y 1, eq_ix2 y⟩
  have e0 : ((Rect.unit (s := S16384x128) (k0_off2 L) S512x128.size (k0_off2_inb L)).emb (ix2 y0 y1) 0).val = 512 * (wL L).val + y0.val := by
    exact (Rect.emb_apply _ _ 0).trans ((congrArg (· + _) (off2_0 L)).trans (by simp [Rect.unit, ix2]))
  have e1 : (Rect.unit (s := S16384x128) (k0_off2 L) S512x128.size (k0_off2_inb L)).emb (ix2 y0 y1) 1 = y1 := by
    exact Fin.ext ((Rect.emb_apply _ _ 1).trans ((congrArg (· + _) (off2_1 L)).trans (by simp [Rect.unit, ix2])))
  unfold gfun gath
  rw [hr, e1]
  have h0 : x0 ((Rect.unit (s := S16384x128) (k0_off2 L) S512x128.size (k0_off2_inb L)).emb (ix2 y0 y1) 0) = wL L :=
    Fin.ext (by unfold x0; dsimp only; rw [e0]; omega)
  have h1 : x1 ((Rect.unit (s := S16384x128) (k0_off2 L) S512x128.size (k0_off2_inb L)).emb (ix2 y0 y1) 0) = hi y0 :=
    Fin.ext (by unfold x1 hi; dsimp only; rw [e0]; omega)
  have h2 : x2 ((Rect.unit (s := S16384x128) (k0_off2 L) S512x128.size (k0_off2_inb L)).emb (ix2 y0 y1) 0) = lo y0 :=
    Fin.ext (by unfold x2 lo; dsimp only; rw [e0]; omega)
  rw [h0, h1, h2]
  rfl

theorem out_o1 (t : S100000x128.Idx → Elt F .f32) (r : S4x128.Idx → Elt F .i32) (u : S32x4x128.Idx → Elt F .i32) (hr : ∀ a b, r (ix2 a b) = u (ix3 (wL L) a b))
    (fo : Buf (Elt F) (o1Loc d)) : ∀ x ∈ (outK L o1V).view.set, (outK L o1V).view.writes (Elt F) fo [⟨Rect.whole S512x128, gfun t r⟩] x = gath t u x := by
  intro x hx
  obtain ⟨y, -, rfl⟩ := Finset.mem_map.mp hx
  rw [View.writes_cons, View.writes_nil]
  have hy : (outK L o1V).view.emb y = ((outK L o1V).view.slice (Rect.whole S512x128)).emb y :=
    (congrArg (outK L o1V).view.emb (Rect.emb_whole_apply S512x128 y)).symm
  refine (congrArg _ hy).trans ((View.write_emb_of_mem _ _ (Finset.mem_univ y)).trans ?_)
  rw [cast_eq]
  exact gfun_gath L t r u hr y
theorem out_o2 (t : S100000x128.Idx → Elt F .f32) (r : S4x128.Idx → Elt F .i32) (u : S32x4x128.Idx → Elt F .i32) (hr : ∀ a b, r (ix2 a b) = u (ix3 (wL L) a b))
    (fo : Buf (Elt F) (o2Loc d)) : ∀ x ∈ (outK L o2V).view.set, (outK L o2V).view.writes (Elt F) fo [⟨Rect.whole S512x128, gfun t r⟩] x = gath t u x := by
  intro x hx
  obtain ⟨y, -, rfl⟩ := Finset.mem_map.mp hx
  rw [View.writes_cons, View.writes_nil]
  have hy : (outK L o2V).view.emb y = ((outK L o2V).view.slice (Rect.whole S512x128)).emb y :=
    (congrArg (outK L o2V).view.emb (Rect.emb_whole_apply S512x128 y)).symm
  refine (congrArg _ hy).trans ((View.write_emb_of_mem _ _ (Finset.mem_univ y)).trans ?_)
  rw [cast_eq]
  exact gfun_gath L t r u hr y

end Parts

/-! ## What the handshakes carry -/

section Call

variable [FloatOps F]
variable (u₁ u₂ : Dev nD → S32x4x128.Idx → Elt F .i32) (t₁ t₂ : Dev nD → S100000x128.Idx → Elt F .f32)

/-- What task `w` takes of the two inputs of each half, and what it brings back unchanged. -/
abbrev inRes (d : Dev nD) (w : Fin 32) : sProp 𝕄 :=
  iprop((i1Loc d ↦[iSet w]{fullShare} (u₁ d : Buf (Elt F) (i1Loc d))) ∗ (i2Loc d ↦[iSet w]{fullShare} (u₂ d : Buf (Elt F) (i2Loc d)))
    ∗ (t1Loc d ↦{pieceOf fullShare 32 tpos w} (t₁ d : Buf (Elt F) (t1Loc d))) ∗ (t2Loc d ↦{pieceOf fullShare 32 tpos w} (t₂ d : Buf (Elt F) (t2Loc d))))
/-- Task `w`'s rows of the outputs, before and after. -/
abbrev goRes (d : Dev nD) (w : Fin 32) : sProp 𝕄 :=
  iprop(inRes u₁ u₂ t₁ t₂ d w ∗ (∃ f, o1Loc d ↦[oSet w]{fullShare} f) ∗ (∃ f, o2Loc d ↦[oSet w]{fullShare} f))
abbrev tdRes (d : Dev nD) (w : Fin 32) : sProp 𝕄 :=
  iprop(inRes u₁ u₂ t₁ t₂ d w ∗ (o1Loc d ↦[oSet w]{fullShare} (gath (t₁ d) (u₁ d) : Buf (Elt F) (o1Loc d)))
    ∗ (o2Loc d ↦[oSet w]{fullShare} (gath (t₂ d) (u₂ d) : Buf (Elt F) (o2Loc d))))

abbrev wK (c : Fin ((K (F := F)).nCore 0)) (i : Fin ((K (F := F)).nSub 0)) : Fin 32 := wid (Fin.cast nCore_zero c) (Fin.cast nSub_zero i)

/-- A SparseCore takes and brings back what its sixteen tasks do. -/
def P : (K (F := F)).Pay (nD := nD) (Val := Elt F) (Name := ℕ) (U := UU) where
  st := fun q d c => match q with | 0 => bigSep Finset.univ fun i => goRes u₁ u₂ t₁ t₂ d (wK c i)
  dn := fun q d c => match q with | 0 => bigSep Finset.univ fun i => tdRes u₁ u₂ t₁ t₂ d (wK c i)
  go := fun q d c i => match q with | 0 => goRes u₁ u₂ t₁ t₂ d (wK c i)
  td := fun q d c i => match q with | 0 => tdRes u₁ u₂ t₁ t₂ d (wK c i)
  x := fun _ _ => iprop(emp)

instance go_storable (d : Dev nD) (w : Fin 32) : BI.Storable (upEmb : UEmb _ 𝕄) (goRes u₁ u₂ t₁ t₂ d w) := by unfold goRes; infer_instance
instance td_storable (d : Dev nD) (w : Fin 32) : BI.Storable (upEmb : UEmb _ 𝕄) (tdRes u₁ u₂ t₁ t₂ d w) := by unfold tdRes; infer_instance

instance P_storable : (P u₁ u₂ t₁ t₂).IsStorable where
  st q d c := match q with
    | 0 => (inferInstance : BI.Storable (upEmb : UEmb _ 𝕄) (bigSep Finset.univ fun i => goRes u₁ u₂ t₁ t₂ d (wK c i)))
  dn q d c := match q with
    | 0 => (inferInstance : BI.Storable (upEmb : UEmb _ 𝕄) (bigSep Finset.univ fun i => tdRes u₁ u₂ t₁ t₂ d (wK c i)))
  go q d c i := match q with | 0 => go_storable u₁ u₂ t₁ t₂ d (wK c i)
  td q d c i := match q with | 0 => td_storable u₁ u₂ t₁ t₂ d (wK c i)

/-- Every id is a row of its table. -/
def IdsOK : Prop := (∀ d x, (u₁ d x).toNat < 100000) ∧ ∀ d x, (u₂ d x).toNat < 100000

/-! ## The task -/

section Tile

variable (d : Dev nD) (L : grid0.Coords)

abbrev cell (s : DmaSems sig S_) : GSem nD τ sig := (V d (cV L) (jV L), .dma s.sem)

omit [FloatOps F] in
theorem cell_mem (s : DmaSems sig S_) (h : (SemLoc.dma s.sem : SemLoc sig).isScoped .scVector = true) : cell d L s ∈ ownCells (V d (cV L) (jV L)) :=
  mem_ownCells.mpr ⟨rfl, h⟩
omit [FloatOps F] in
theorem cell_ne (s s' : DmaSems sig S_) (h : (SemLoc.dma s.sem : SemLoc sig) ≠ .dma s'.sem) : cell d L s ≠ cell d L s' :=
  fun e => h (congrArg Prod.snd e)

omit [FloatOps F] in
/-- The task's five cells are among the subcore's own. -/
theorem ownSems0_five : ∃ R : sProp 𝕄,
    (ownSems0 (V d (cV L) (jV L)) : sProp 𝕄)
      = iprop(semVal (cell d L cc0_scratch2) 0 ∗ semVal (cell d L cc0_scoped0) 0 ∗ semVal (cell d L cc0_scoped1) 0
          ∗ semVal (cell d L cc0_scoped2) 0 ∗ semVal (cell d L cc0_scoped3) 0 ∗ R) := by
  refine ⟨bigSep ((((((ownCells (V d (cV L) (jV L))).erase (cell d L cc0_scratch2)).erase (cell d L cc0_scoped0)).erase (cell d L cc0_scoped1)).erase (cell d L cc0_scoped2)).erase
    (cell d L cc0_scoped3)) fun g => semVal g 0, ?_⟩
  unfold SparseCore.Cfg.ownSems0
  rw [SparseCore.bigSep_erase' (cell_mem d L cc0_scratch2 (by decide)),
    SparseCore.bigSep_erase' (Finset.mem_erase.mpr ⟨cell_ne d L _ _ (by decide), cell_mem d L cc0_scoped0 (by decide)⟩),
    SparseCore.bigSep_erase' (Finset.mem_erase.mpr ⟨cell_ne d L _ _ (by decide), Finset.mem_erase.mpr ⟨cell_ne d L _ _ (by decide), cell_mem d L cc0_scoped1 (by decide)⟩⟩),
    SparseCore.bigSep_erase' (Finset.mem_erase.mpr ⟨cell_ne d L _ _ (by decide), Finset.mem_erase.mpr ⟨cell_ne d L _ _ (by decide), Finset.mem_erase.mpr ⟨cell_ne d L _ _ (by decide),
      cell_mem d L cc0_scoped2 (by decide)⟩⟩⟩),
    SparseCore.bigSep_erase' (Finset.mem_erase.mpr ⟨cell_ne d L _ _ (by decide), Finset.mem_erase.mpr ⟨cell_ne d L _ _ (by decide), Finset.mem_erase.mpr ⟨cell_ne d L _ _ (by decide),
      Finset.mem_erase.mpr ⟨cell_ne d L _ _ (by decide), cell_mem d L cc0_scoped3 (by decide)⟩⟩⟩⟩)]

omit [FloatOps F] in
/-- The list's buffer and the row buffer are among the subcore's own. -/
theorem ownBufs_two : ∃ R : sProp 𝕄,
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ R) := by
  refine ⟨bigSep (((ownRefs (τ := τ) (.scVector (cV L) (jV L))).erase ((Proc.scVector (cV L) (jV L)).devRef cc0_scratch0)).erase
    ((Proc.scVector (cV L) (jV L)).devRef cc0_scratch1)) fun b => iprop(∃ f, ((d, b) : Loc nD τ sig) ↦{fullShare} f), ?_⟩
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- One half of the task, whatever the arrays: the list fetched, the rows gathered and copied out. -/
theorem wp_half (iM : Memref sig .scVector .hbm S32x4x128 .i32) (tM : Memref sig .scVector .hbm S100000x128 .f32) (oM : Memref sig .scVector .hbm S16384x128 .f32)
    (sA sB : DmaSems sig S_) (q : PosShare TreeShare)
    (fi : Buf (Elt F) ((idsK L iM).view.loc (V d (cV L) (jV L)))) (ft : Buf (Elt F) ((tabK tM).view.loc (V d (cV L) (jV L))))
    (fo : Buf (Elt F) ((outK L oM).view.loc (V d (cV L) (jV L)))) (hin : ∀ x, ((idsK L iM).view.read (Elt F) fi x).toNat < 100000)
    (O : CellTallies nD τ sig (HIx 1)) (W : Waits sig (HIx 1)) (hO : ∀ g, O g none = 0) {α : Type} {Q : α → sProp 𝕄} {k : PUnit → TP (F := F) L α} :
    iprop(levAts (K (F := F)).L (K (F := F)).lev
        ∗ ((idsK L iM).view.loc (V d (cV L) (jV L)) ↦[(idsK L iM).view.set]{fullShare} fi : sProp 𝕄)
        ∗ ((tabK tM).view.loc (V d (cV L) (jV L)) ↦[(tabK tM).view.set]{q} ft)
        ∗ ((outK L oM).view.loc (V d (cV L) (jV L)) ↦[(outK L oM).view.set]{fullShare} fo)
        ∗ (∃ f, (V d (cV L) (jV L)).loc cc0_scratch0 ↦{fullShare} f) ∗ (∃ f, (V d (cV L) (jV L)).loc cc0_scratch1 ↦{fullShare} f)
        ∗ semVal (cell d L cc0_scratch2) 0 ∗ semVal (cell d L sA) 0 ∗ semVal (cell d L sB) 0 ∗ owes (V d (cV L) (jV L)) O W)
      ⊢ iprop((iprop(((idsK L iM).view.loc (V d (cV L) (jV L)) ↦[(idsK L iM).view.set]{fullShare} fi)
          ∗ ((tabK tM).view.loc (V d (cV L) (jV L)) ↦[(tabK tM).view.set]{q} ft)
          ∗ ((outK L oM).view.loc (V d (cV L) (jV L)) ↦[(outK L oM).view.set]{fullShare}
              ((outK L oM).view.writes (Elt F) fo [⟨Rect.whole S512x128, gfun ((tabK tM).view.read (Elt F) ft) ((idsK L iM).view.read (Elt F) fi)⟩]))
          ∗ (∃ f, (V d (cV L) (jV L)).loc cc0_scratch0 ↦{fullShare} f) ∗ (∃ f, (V d (cV L) (jV L)).loc cc0_scratch1 ↦{fullShare} f)
          ∗ semVal (cell d L cc0_scratch2) 0 ∗ semVal (cell d L sA) 0 ∗ semVal (cell d L sB) 0
          ∗ ∃ W', ⌜∀ p ∈ W', p ∈ W ∨ p.2 = none⌝ ∗ owes (V d (cV L) (jV L)) O W')
            -∗ wp frame (wpE (defs₀ (F := F)) 𝒱₀ (V d (cV L) (jV L)) none) Set.univ (k ⟨⟩) Q)
          -∗ wp frame (wpE (defs₀ (F := F)) 𝒱₀ (V d (cV L) (jV L)) none) Set.univ
            (fetch L iM sA >>= fun _ => gather4 L tM >>= fun _ => writeOut L oM sB >>= k) Q) := by
  iintro ⟨#Hlv, Hi, Ht, Ho, ⟨%fs, Hs⟩, ⟨%fr, Hr⟩, Hsem, HsA, HsB, HO⟩ Hk
  simp only [wp_bind]
  iapply ((wp_fetch d L iM sA fi fs O W hO).trans (wp_wand frame _ _)) $$ [Hi Hs HsA HO]
  · isplitr; · iexact Hlv
    isplitl [Hi]; · iexact Hi
    isplitl [Hs]; · iexact Hs
    isplitl [HsA] <;> iassumption
  iintro %_ ⟨Hi, Hs, HsA, %W₁, %hW₁, HO⟩
  iapply ((wp_gather4 d L tM q ft ((idsK L iM).view.read (Elt F) fi) hin fr O W₁ hO).trans (wp_wand frame _ _)) $$ [Ht Hs Hr Hsem HO]
  · isplitr; · iexact Hlv
    isplitl [Ht]; · iexact Ht
    isplitl [Hs]; · iexact Hs
    isplitl [Hr]; · iexact Hr
    isplitl [Hsem] <;> iassumption
  iintro %_ ⟨Ht, Hs, Hr, Hsem, %W₂, %hW₂, HO⟩
  iapply ((wp_writeOut d L oM sB fo (gfun ((tabK tM).view.read (Elt F) ft) ((idsK L iM).view.read (Elt F) fi)) O W₂ hO).trans (wp_wand frame _ _)) $$ [Ho Hr HsB HO]
  · isplitr; · iexact Hlv
    isplitl [Ho]; · iexact Ho
    isplitl [Hr]; · iexact Hr
    isplitl [HsB] <;> iassumption
  iintro %_ ⟨Ho, Hr, HsB, %W₃, %hW₃, HO⟩
  iapply Hk
  isplitl [Hi]; · iexact Hi
  isplitl [Ht]; · iexact Ht
  isplitl [Ho]; · iexact Ho
  isplitl [Hs]; · iexists _; iexact Hs
  isplitl [Hr]; · iexists _; iexact Hr
  isplitl [Hsem]; · iexact Hsem
  isplitl [HsA]; · iexact HsA
  isplitl [HsB]; · iexact HsB
  iexists W₃; isplitr
  swap; · iexact HO
  ipureintro; intro p hp
  rcases hW₃ p hp with hp | hp; swap; · exact .inr hp
  rcases hW₂ p hp with hp | hp; swap; · exact .inr hp
  exact hW₁ p hp

omit [FloatOps F] in
theorem pts_i1 (f : Buf (Elt F) (i1Loc d)) :
    ((idsK L i1V).view.loc (V d (cV L) (jV L)) ↦[(idsK L i1V).view.set]{fullShare} f : sProp 𝕄) = i1Loc d ↦[iSet (wL L)]{fullShare} f := by
  rw [set_i1]
omit [FloatOps F] in
theorem pts_o1 (f : Buf (Elt F) (o1Loc d)) :
    ((outK L o1V).view.loc (V d (cV L) (jV L)) ↦[(outK L o1V).view.set]{fullShare} f : sProp 𝕄) = o1Loc d ↦[oSet (wL L)]{fullShare} f := by
  rw [set_o1]
omit [FloatOps F] in
theorem pts_t1 (q : PosShare TreeShare) (f : Buf (Elt F) (t1Loc d)) :
    ((tabK t1V).view.loc (V d (cV L) (jV L)) ↦[(tabK t1V).view.set]{q} f : sProp 𝕄) = t1Loc d ↦{q} f := by
  rw [set_t1]
omit [FloatOps F] in
theorem pts_g1 (u : S32x4x128.Idx → Elt F .i32) (t : S100000x128.Idx → Elt F .f32) (fo : Buf (Elt F) (o1Loc d)) :
    ((outK L o1V).view.loc (V d (cV L) (jV L)) ↦[(outK L o1V).view.set]{fullShare}
        ((outK L o1V).view.writes (Elt F) fo [⟨Rect.whole S512x128, gfun ((tabK t1V).view.read (Elt F) t) ((idsK L i1V).view.read (Elt F) u)⟩]) : sProp 𝕄)
      = o1Loc d ↦[oSet (wL L)]{fullShare} (gath t u : Buf (Elt F) (o1Loc d)) := by
  rw [read_t1, ← set_o1 L]
  exact pointsTo_congr (out_o1 d L t _ u (read_i1 L u) fo)
omit [FloatOps F] in
theorem pts_i2 (f : Buf (Elt F) (i2Loc d)) :
    ((idsK L i2V).view.loc (V d (cV L) (jV L)) ↦[(idsK L i2V).view.set]{fullShare} f : sProp 𝕄) = i2Loc d ↦[iSet (wL L)]{fullShare} f := by
  rw [set_i2]
omit [FloatOps F] in
theorem pts_o2 (f : Buf (Elt F) (o2Loc d)) :
    ((outK L o2V).view.loc (V d (cV L) (jV L)) ↦[(outK L o2V).view.set]{fullShare} f : sProp 𝕄) = o2Loc d ↦[oSet (wL L)]{fullShare} f := by
  rw [set_o2]
omit [FloatOps F] in
theorem pts_t2 (q : PosShare TreeShare) (f : Buf (Elt F) (t2Loc d)) :
    ((tabK t2V).view.loc (V d (cV L) (jV L)) ↦[(tabK t2V).view.set]{q} f : sProp 𝕄) = t2Loc d ↦{q} f := by
  rw [set_t2]
omit [FloatOps F] in
theorem pts_g2 (u : S32x4x128.Idx → Elt F .i32) (t : S100000x128.Idx → Elt F .f32) (fo : Buf (Elt F) (o2Loc d)) :
    ((outK L o2V).view.loc (V d (cV L) (jV L)) ↦[(outK L o2V).view.set]{fullShare}
        ((outK L o2V).view.writes (Elt F) fo [⟨Rect.whole S512x128, gfun ((tabK t2V).view.read (Elt F) t) ((idsK L i2V).view.read (Elt F) u)⟩]) : sProp 𝕄)
      = o2Loc d ↦[oSet (wL L)]{fullShare} (gath t u : Buf (Elt F) (o2Loc d)) := by
  rw [read_t2, ← set_o2 L]
  exact pointsTo_congr (out_o2 d L t _ u (read_i2 L u) fo)

set_option maxRecDepth 16384 in
/-- The task: both halves, from what it takes to what it brings back. -/
theorem tile_body (hF : (K (F := F)).Facts) (hu : IdsOK u₁ u₂) (O : CellTallies nD τ sig (HIx 1)) (W : Waits sig (HIx 1)) (hO : ∀ g, O g none = 0) :
    iprop(levAts (K (F := F)).L (K (F := F)).lev ∗ emp ∗ goRes u₁ u₂ t₁ t₂ d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (body L)
          fun _ => iprop(tdRes u₁ u₂ t₁ t₂ d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  obtain ⟨RB, hRB⟩ := ownBufs_two (F := F) d L
  obtain ⟨RS, hRS⟩ := ownSems0_five (F := F) d L
  rw [(K (F := F)).scopedBufs_V hF d (cV L) (jV L), SparseCore.Cfg.scopedSems0_V (Val := Elt F) d (cV L) (jV L), hRB, hRS, body_eq]
  rw [← bind_pure (writeOut L o2V cc0_scoped3)]
  iintro ⟨#Hlv, -, ⟨⟨Hi1, Hi2, Ht1, Ht2⟩, ⟨%f1, Ho1⟩, ⟨%f2, Ho2⟩⟩, ⟨Hs, Hr, HRB⟩, ⟨HsG, HsA, HsB, HsC, HsD, HRS⟩, HO⟩
  iapply (wp_half d L i1V t1V o1V cc0_scoped0 cc0_scoped1 (pieceOf fullShare 32 tpos (wL L)) (u₁ d) (t₁ d) f1
    (ids_lt L _ (u₁ d) (read_i1 L (u₁ d)) (hu.1 d)) O W hO) $$ [Hi1 Ht1 Ho1 Hs Hr HsG HsA HsB HO]
  · isplitr; · iexact Hlv
    isplitl [Hi1]; · iapply (Entails.of_eq (pts_i1 d L (u₁ d)).symm); iexact Hi1
    isplitl [Ht1]; · iapply (Entails.of_eq (pts_t1 d L _ (t₁ d)).symm); iexact Ht1
    isplitl [Ho1]; · iapply (Entails.of_eq (pts_o1 d L f1).symm); iexact Ho1
    isplitl [Hs]; · iexact Hs
    isplitl [Hr]; · iexact Hr
    isplitl [HsG]; · iexact HsG
    isplitl [HsA]; · iexact HsA
    isplitl [HsB] <;> iassumption
  iintro ⟨Hi1, Ht1, Ho1, Hs, Hr, HsG, HsA, HsB, %W₁, %hW₁, HO⟩
  ihave Hi1' := (Entails.of_eq (pts_i1 d L (u₁ d))) $$ Hi1
  ihave Ht1' := (Entails.of_eq (pts_t1 d L _ (t₁ d))) $$ Ht1
  ihave Ho1' := (Entails.of_eq (pts_g1 d L (u₁ d) (t₁ d) f1)) $$ Ho1
  iapply (wp_half d L i2V t2V o2V cc0_scoped2 cc0_scoped3 (pieceOf fullShare 32 tpos (wL L)) (u₂ d) (t₂ d) f2
    (ids_lt L _ (u₂ d) (read_i2 L (u₂ d)) (hu.2 d)) O W₁ hO) $$ [Hi2 Ht2 Ho2 Hs Hr HsG HsC HsD HO]
  · isplitr; · iexact Hlv
    isplitl [Hi2]; · iapply (Entails.of_eq (pts_i2 d L (u₂ d)).symm); iexact Hi2
    isplitl [Ht2]; · iapply (Entails.of_eq (pts_t2 d L _ (t₂ d)).symm); iexact Ht2
    isplitl [Ho2]; · iapply (Entails.of_eq (pts_o2 d L f2).symm); iexact Ho2
    isplitl [Hs]; · iexact Hs
    isplitl [Hr]; · iexact Hr
    isplitl [HsG]; · iexact HsG
    isplitl [HsC]; · iexact HsC
    isplitl [HsD] <;> iassumption
  iintro ⟨Hi2, Ht2, Ho2, Hs, Hr, HsG, HsC, HsD, %W₂, %hW₂, HO⟩
  ihave Hi2' := (Entails.of_eq (pts_i2 d L (u₂ d))) $$ Hi2
  ihave Ht2' := (Entails.of_eq (pts_t2 d L _ (t₂ d))) $$ Ht2
  ihave Ho2' := (Entails.of_eq (pts_g2 d L (u₂ d) (t₂ d) f2)) $$ Ho2
  rw [wp_pure]
  imodintro
  isplitl [Hi1' Hi2' Ht1' Ht2' Ho1' Ho2']
  · isplitl [Hi1' Hi2' Ht1' Ht2']
    · isplitl [Hi1']; · iexact Hi1'
      isplitl [Hi2']; · iexact Hi2'
      isplitl [Ht1'] <;> iassumption
    isplitl [Ho1'] <;> iassumption
  isplitl [Hs Hr HRB]
  · isplitl [Hs]; · iexact Hs
    isplitl [Hr] <;> iassumption
  isplitl [HsG HsA HsB HsC HsD HRS]
  · isplitl [HsG]; · iexact HsG
    isplitl [HsA]; · iexact HsA
    isplitl [HsB]; · iexact HsB
    isplitl [HsC]; · iexact HsC
    isplitl [HsD] <;> iassumption
  iexists W₂; isplitr
  swap; · iexact HO
  ipureintro; intro p hp
  rcases hW₂ p hp with hp | hp; swap; · exact .inr hp
  exact hW₁ p hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => body (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Tile

set_option maxRecDepth 16384 in
/-- Every tile, at every grid point, does its task. -/
theorem tileObl (hF : (K (F := F)).Facts) (hu : IdsOK u₁ u₂) : (K (F := F)).TileObl (D (F := F)) 𝒱 (P u₁ u₂ t₁ t₂) v₀ 0 := by
  intro d c i O W hO _ _
  simp only [show (P u₁ u₂ t₁ t₂).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body u₁ u₂ t₁ t₂ d (coordsV ⟨_, hci.1⟩ ⟨_, hci.2⟩) hF hu O W hO).trans (wp_mono frame _ _ fun _ => obl_post)

/-- A SparseCore's part is its tasks' parts, out and back. -/
theorem vecSplit : (K (F := F)).VecSplit' (P u₁ u₂ t₁ t₂) 0 := by
  intro d c
  show (bigSep Finset.univ fun i => goRes u₁ u₂ t₁ t₂ d (wK c i)) ⊢ |={Set.univ}=> iprop(
      (bigSep Finset.univ fun i => goRes u₁ u₂ t₁ t₂ d (wK c i))
      ∗ ((bigSep Finset.univ fun i => tdRes u₁ u₂ t₁ t₂ d (wK c i)) -∗ (bigSep Finset.univ fun i => tdRes u₁ u₂ t₁ t₂ d (wK c i))))
  iintro H; imodintro
  isplitl [H]; · iexact H
  iintro H; iexact H

end Call

end Cert.Proof.KITile
-- ==== Proof.KIMlp.lean ====
/-
  The dense layers, the TensorCore call. At every grid point the body reads a block of 2048 rows of each gathered
  array and all of the weights, and stores 2048 scores: `mlpBlock` of what it read. The eight blocks make up the result.
-/
module

public import proofs.«01_k».proof.Proof.KICall
public import proofs.«01_k».proof.Proof.Gen.KernelIdeal.Launch
public import proofs.«01_k».proof.Proof.Gen.KernelIdeal.Points
public import Idealize.ShloMosaic.Lib.Pipeline.Value
public import Idealize.ShloMosaic.Lib.Pipeline.ValueKit
public import Idealize.ShloMosaic.Lib.Pipeline.FrameBody
public import Idealize.ShloMosaic.Lib.Pipeline.RegionArrays

@[expose] public section

noncomputable section

namespace Cert.Proof.KITile

open Cert.KernelIdeal Cert.KernelIdeal.Gen

open Idealize.ShloMosaic Idealize.ShloMosaic.TcCoe
open Idealize.ShloMosaic.Pipeline (Dat BodyObligation)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F]

theorem off1 : (![0] : Fin S2048.rank → ℕ) = fun _ => 0 := by funext a; fin_cases a; rfl
theorem off2 : (![0, 0] : Fin S2048x128.rank → ℕ) = fun _ => 0 := by funext a; fin_cases a <;> rfl

omit [FloatOps F] in
/-- A load through the rectangle at offset zero and of the whole size reads the contents. -/
theorem readAt_all {κ : Kind} {sp : Space} {s : Shape} {e : EltTy} (v : View sig κ sp s e) {off : Fin s.rank → ℕ}
    (h : off = fun _ => 0) (inb : ∀ a, off a + s.size a ≤ s.size a) (f : v.ty.Contents (Elt F)) :
    View.readAt (Elt F) v (Rect.unit off s.size inb).toLoadRect f = v.read (Elt F) f :=
  View.ld_unit_zero h inb (v.read (Elt F) f)

/-- The scores of one block of rows: the body's value of its nine operands. -/
def mlpBlock (a b : Vec F S2048x128 .f32) (w1 w2 : Vec F S128x128 .f32) (b1 : Vec F S1x128 .f32) (w : Vec F S128x64 .f32)
    (b2 w3 : Vec F S1x64 .f32) (b3 : Vec F S1 .f32) : Vec F S2048 .f32 :=
  k1_pay1 a w1 b w2 b1 w b2 w3 (b3 (ix1 0))

set_option maxHeartbeats 1000000 in
/-- The body: it reads its nine operands and leaves `mlpBlock` of them in the tenth. -/
theorem mlp_body (c : Dev nD) (E : Set ℕ) (i : grid1.Coords)
    (g1 : Memref sig .tc .vmem S2048x128 .f32) (h1 : g1.IsWhole) (g2 : Memref sig .tc .vmem S2048x128 .f32) (h2 : g2.IsWhole)
    (g3 : Memref sig .tc .vmem S128x128 .f32) (h3 : g3.IsWhole) (g4 : Memref sig .tc .vmem S128x128 .f32) (h4 : g4.IsWhole)
    (g5 : Memref sig .tc .vmem S1x128 .f32) (h5 : g5.IsWhole) (g6 : Memref sig .tc .vmem S128x64 .f32) (h6 : g6.IsWhole)
    (g7 : Memref sig .tc .vmem S1x64 .f32) (h7 : g7.IsWhole) (g8 : Memref sig .tc .vmem S1x64 .f32) (h8 : g8.IsWhole)
    (g9 : Memref sig .tc .smem S1 .f32) (h9 : g9.IsWhole) (g10 : Memref sig .tc .vmem S2048 .f32) (h10 : g10.IsWhole)
    (x1 x2 : Vec F S2048x128 .f32) (x3 x4 : Vec F S128x128 .f32) (x5 : Vec F S1x128 .f32) (x6 : Vec F S128x64 .f32)
    (x7 x8 : Vec F S1x64 .f32) (x9 : Vec F S1 .f32) (Kont : PUnit → sProp 𝕄) :
    iprop(((owns (c : Thread nD τ) g1 fullShare x1 : sProp 𝕄) ∗ owns (c : Thread nD τ) g2 fullShare x2 ∗ owns (c : Thread nD τ) g3 fullShare x3
        ∗ owns (c : Thread nD τ) g4 fullShare x4 ∗ owns (c : Thread nD τ) g5 fullShare x5 ∗ owns (c : Thread nD τ) g6 fullShare x6
        ∗ owns (c : Thread nD τ) g7 fullShare x7 ∗ owns (c : Thread nD τ) g8 fullShare x8 ∗ owns (c : Thread nD τ) g9 fullShare x9
        ∗ ∃ x, owns (c : Thread nD τ) g10 fullShare x)
      ∗ ((owns (c : Thread nD τ) g1 fullShare x1 ∗ owns (c : Thread nD τ) g2 fullShare x2 ∗ owns (c : Thread nD τ) g3 fullShare x3
        ∗ owns (c : Thread nD τ) g4 fullShare x4 ∗ owns (c : Thread nD τ) g5 fullShare x5 ∗ owns (c : Thread nD τ) g6 fullShare x6
        ∗ owns (c : Thread nD τ) g7 fullShare x7 ∗ owns (c : Thread nD τ) g8 fullShare x8 ∗ owns (c : Thread nD τ) g9 fullShare x9
        ∗ owns (c : Thread nD τ) g10 fullShare (mlpBlock x1 x2 x3 x4 x5 x6 x7 x8 x9)) -∗ Kont ⟨⟩))
      ⊢ wp frame (wpE (defs₀ (F := F)) Variants.none (c : Thread nD τ) none) E
          (cc1__mlp_body i g1 h1 g2 h2 g3 h3 g4 h4 g5 h5 g6 h6 g7 h7 g8 h8 g9 h9 g10 h10) Kont := by
  simp only [cc1__mlp_body_eq_skeleton]
  unfold cc1__mlp_body_skel
  simp only [k1_part1_eq_skeleton]
  unfold k1_part1_skel owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%f9, %e9, H9⟩, %y, %f10, -, H10⟩, Hk⟩
  subst e1 e2 e3 e4 e5 e6 e7 e8 e9
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]; · iexists f9; isplitr; · ipureintro; rfl
                  iexact H9
  iexists _; isplitr; swap; · iexact H10
  ipureintro
  rw [View.read_writes_eq_canon _ _ _ (View.cover_of_tiled _ S2048.size (by rfl)), View.canon_unit_zero off1]
  unfold mlpBlock
  congr 1 <;> first | exact readAt_all _ off2 _ _ | skip
  unfold mlp_body.sl.r
  exact (congrFun (readAt_all g9.view (off := ![0]) (by funext a; fin_cases a; rfl) inb_S1_S1_0 f9) _).trans
    (congrArg _ (by funext a; fin_cases a; exact Subsingleton.elim (α := Fin 1) _ _))

/-! ## The proof data, at an entry valuation -/

variable (V : (c : Dev nD) → (b : Ref sig .tc) → Buf (Elt F) ((c : Thread nD τ).loc b))

/-- Window `w`'s block of its array at point `t`. -/
def wblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scores the body stores at point `t`. -/
def score (c : Dev nD) (t : Fin cfg1.N) : Vec F S2048 .f32 :=
  mlpBlock (wblk V c 0 t) (wblk V c 1 t) (wblk V c 2 t) (wblk V c 3 t) (wblk V c 4 t) (wblk V c 5 t) (wblk V c 6 t) (wblk V c 7 t) (wblk V c 8 t)

/-- The waits that may have been recorded when the TensorCore comes to the dense layers. -/
abbrev lowWaits (c : Dev nD) : Set (SemLoc sig × HIx 1) := {p | (K (F := F)).lev ((c : Thread nD τ), p.1) p.2 ≤ 8}

/-- The proof data of the call, entered at valuation `V`: every operand's buffer holds its block, the result's the scores. -/
def mdat (c : Dev nD) : Dat τ (Elt F) (HIx 1) ℕ UU ℕ cfg1 c where
  A w := V c (Pipeline.arrRef spec1 w)
  after w t := match w with
    | ⟨9, _⟩ => score V c t
    | ⟨0, h⟩ => wblk V c ⟨0, h⟩ t
    | ⟨1, h⟩ => wblk V c ⟨1, h⟩ t
    | ⟨2, h⟩ => wblk V c ⟨2, h⟩ t
    | ⟨3, h⟩ => wblk V c ⟨3, h⟩ t
    | ⟨4, h⟩ => wblk V c ⟨4, h⟩ t
    | ⟨5, h⟩ => wblk V c ⟨5, h⟩ t
    | ⟨6, h⟩ => wblk V c ⟨6, h⟩ t
    | ⟨7, h⟩ => wblk V c ⟨7, h⟩ t
    | ⟨8, h⟩ => wblk V c ⟨8, h⟩ t
  Φ _ := BI.emp
  q _ := fullShare
  owed _ := 0
  recorded _ := lowWaits (F := F) c

/-- Every operand's buffer holds its block when the body runs: it was fetched at this point, or earlier and kept. -/
theorem before_operand (c : Dev nD) (w : Fin cfg1.W) (h : w ≠ 9) (t : Fin cfg1.N) (d) :
    (mdat V c).before w t d = (mdat V c).fetched w t d := by
  fin_cases w
  all_goals first
    | exact absurd rfl h
    | exact (mdat V c).before_in_eq_fetched _ rfl (fun _ => rfl) (fun _ _ _ => rfl) (fun _ => rfl) t d

theorem row1 (t : Fin cfg1.N) : defs₀ (F := F) .tc cfg1.body (cfg1.bodyArgs t (cfg1.slots t)) = bodyAt1 t := rfl

/-- The body's obligation at every grid point. -/
theorem body_obl (c : Dev nD) : BodyObligation (mdat V c) (defs₀ (F := F)) 𝒱₀ none Set.univ := fun t => by
  rw [bigSep_W1, bigSep_W1, row1]
  rw [show (mdat V c).Φ t.succ = (mdat V c).Φ t.castSucc from rfl, show (mdat V c).owesAt none t.succ = (mdat V c).owesAt none t.castSucc from rfl]
  dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before_operand V c 0 (by decide), before_operand V c 1 (by decide), before_operand V c 2 (by decide), before_operand V c 3 (by decide),
    before_operand V c 4 (by decide), before_operand V c 5 (by decide), before_operand V c 6 (by decide), before_operand V c 7 (by decide),
    before_operand V c 8 (by decide)]
  iapply (mlp_body c Set.univ (grid1.coords t) _ _ _ _ _ _ _ _ _ _ _ _ _ _ _ _ _ _ _ _ (wblk V c 0 t) (wblk V c 1 t) (wblk V c 2 t)
    (wblk V c 3 t) (wblk V c 4 t) (wblk V c 5 t) (wblk V c 6 t) (wblk V c 7 t) (wblk V c 8 t) _)
  isplitr [HΦ Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The result -/

/-- The grid point whose block holds row `j` of the result, and the row's place in the block. -/
def ptOf (j : S16384.Idx) : Fin cfg1.N := ⟨(j 0).val / 2048, by
  have h : (j 0).val < 16384 := (j 0).isLt
  have : cfg1.N = 8 := N_1
  omega⟩

def inBlk (j : S16384.Idx) : S2048.Idx := ix1 ⟨(j 0).val % 2048, Nat.mod_lt _ (by decide)⟩

/-- The result: every row's score. -/
def scores (c : Dev nD) : Buf (Elt F) ((c : Thread nD τ).loc main_v10) :=
  fun j : S16384.Idx => score V c (ptOf j) (inBlk j)

theorem out_index : ∀ t : Fin grid1.N, cc1_transform_9 (grid1.coords t) 0 = t.val := by decide +kernel

/-- Row `y` of point `t`'s block is row `2048 t + y` of the result. -/
theorem out_emb (t : Fin cfg1.N) (y : S2048.Idx) :
    (((win1_9.blk t).view.emb y : S16384.Idx) 0).val = 2048 * t.val + (y 0).val := by
  have h := win1_9.rect_emb_val t y 0
  have e : win1_9.index t 0 = t.val := out_index t
  have h' : (((win1_9.blk t).view.emb y : S16384.Idx) 0).val = win1_9.index t 0 * 2048 + (y 0).val := h
  rw [h', e, Nat.mul_comm]

/-- After the last point the result's array holds the scores. -/
theorem arrAt_scores (c : Dev nD) : (mdat V c).arrAt 9 cfg1.N = scores V c := by
  refine (mdat V c).arrAt_eq_of_covers 9 _ (by decide +kernel) fun t hf y => ?_
  blk_simp
  have e := out_emb t y
  have hy : (y 0).val < 2048 := (y 0).isLt
  have h1 : ptOf ((win1_9.blk t).view.emb y) = t := Fin.ext (by show _ / 2048 = _; rw [e]; omega)
  have h2 : inBlk ((win1_9.blk t).view.emb y) = y := by
    funext a
    match a with
    | ⟨0, _⟩ => exact Fin.ext (show (((win1_9.blk t).view.emb y : S16384.Idx) 0).val % 2048 = (y 0).val by rw [e]; omega)
  unfold scores
  rw [h1, h2]
  rfl

/-- Block `t` of the rows of an array. -/
def rowsAt (A : Vec F S16384x128 .f32) (t : Fin cfg1.N) : Vec F S2048x128 .f32 := fun y =>
  A (ix2 ⟨2048 * t.val + (y 0).val, by
    have h : (y 0).val < 2048 := (y 0).isLt
    have : cfg1.N = 8 := N_1
    omega⟩ (y 1))

theorem in0_index : ∀ t : Fin grid1.N, cc1_transform_0 (grid1.coords t) 0 = t.val ∧ cc1_transform_0 (grid1.coords t) 1 = 0 := by decide +kernel
theorem in1_index : ∀ t : Fin grid1.N, cc1_transform_1 (grid1.coords t) 0 = t.val ∧ cc1_transform_1 (grid1.coords t) 1 = 0 := by decide +kernel

theorem wblk_0 (c : Dev nD) (t : Fin cfg1.N) : wblk V c 0 t = rowsAt (V c main_v2_0) t := by
  funext y
  refine congrArg (V c main_v2_0) (funext fun a => ?_)
  match a with
  | ⟨0, _⟩ =>
    have h : _ = win1_0.index t 0 * 2048 + (y 0).val := win1_0.rect_emb_val t y 0
    rw [show win1_0.index t 0 = t.val from (in0_index t).1, Nat.mul_comm] at h
    exact Fin.ext h
  | ⟨1, _⟩ => exact Fin.ext (win1_0.rect_emb_val_of_index_zero t 1 (in0_index t).2 y)

theorem wblk_1 (c : Dev nD) (t : Fin cfg1.N) : wblk V c 1 t = rowsAt (V c main_v2_1) t := by
  funext y
  refine congrArg (V c main_v2_1) (funext fun a => ?_)
  match a with
  | ⟨0, _⟩ =>
    have h : _ = win1_1.index t 0 * 2048 + (y 0).val := win1_1.rect_emb_val t y 0
    rw [show win1_1.index t 0 = t.val from (in1_index t).1, Nat.mul_comm] at h
    exact Fin.ext h
  | ⟨1, _⟩ => exact Fin.ext (win1_1.rect_emb_val_of_index_zero t 1 (in1_index t).2 y)

theorem wblk_2 (c : Dev nD) (t : Fin cfg1.N) : wblk V c 2 t = V c main_v4 :=
  funext fun y => congrArg (V c main_v4) (funext fun a => Fin.ext (win1_2.rect_emb_val_of_index_zero t a (by fin_cases a <;> rfl) y))

theorem wblk_3 (c : Dev nD) (t : Fin cfg1.N) : wblk V c 3 t = V c main_v6 :=
  funext fun y => congrArg (V c main_v6) (funext fun a => Fin.ext (win1_3.rect_emb_val_of_index_zero t a (by fin_cases a <;> rfl) y))

theorem wblk_4 (c : Dev nD) (t : Fin cfg1.N) : wblk V c 4 t = V c main_v8 :=
  funext fun y => congrArg (V c main_v8) (funext fun a => Fin.ext (win1_4.rect_emb_val_of_index_zero t a (by fin_cases a <;> rfl) y))

theorem wblk_5 (c : Dev nD) (t : Fin cfg1.N) : wblk V c 5 t = V c main_v7 :=
  funext fun y => congrArg (V c main_v7) (funext fun a => Fin.ext (win1_5.rect_emb_val_of_index_zero t a (by fin_cases a <;> rfl) y))

theorem wblk_6 (c : Dev nD) (t : Fin cfg1.N) : wblk V c 6 t = V c main_v9 :=
  funext fun y => congrArg (V c main_v9) (funext fun a => Fin.ext (win1_6.rect_emb_val_of_index_zero t a (by fin_cases a <;> rfl) y))

theorem wblk_7 (c : Dev nD) (t : Fin cfg1.N) : wblk V c 7 t = V c main_arg8 :=
  funext fun y => congrArg (V c main_arg8) (funext fun a => Fin.ext (win1_7.rect_emb_val_of_index_zero t a (by fin_cases a <;> rfl) y))

theorem wblk_8 (c : Dev nD) (t : Fin cfg1.N) : wblk V c 8 t = V c main_arg9 :=
  funext fun y => congrArg (V c main_arg9) (funext fun a => Fin.ext (win1_8.rect_emb_val_of_index_zero t a (by fin_cases a <;> rfl) y))

/-- The scores stored at a point, of the arrays: the point's rows of the gathered arrays and the weights whole. -/
theorem score_eq (c : Dev nD) (t : Fin cfg1.N) : score V c t
    = mlpBlock (rowsAt (V c main_v2_0) t) (rowsAt (V c main_v2_1) t) (V c main_v4) (V c main_v6) (V c main_v8) (V c main_v7) (V c main_v9)
        (V c main_arg8) (V c main_arg9) := by
  unfold score
  rw [wblk_0, wblk_1, wblk_2, wblk_3, wblk_4, wblk_5, wblk_6, wblk_7, wblk_8]

end Cert.Proof.KITile

end
-- ==== Proof.KIRegion.lean ====
/-
  The TensorCore call as one step of the host program: from the TensorCore's buffers at a valuation to the same buffers with
  the result at the scores. The TensorCore owes nothing by then, and the waits it has recorded stay below the bound that the
  launch keeps of them: those of the call are at level zero.
-/
module

public import proofs.«01_k».proof.Proof.KIMlp

@[expose] public section

noncomputable section

namespace Cert.Proof.KITile

open Cert.KernelIdeal Cert.KernelIdeal.Gen

open Idealize.ShloMosaic Idealize.ShloMosaic.TcCoe
open Idealize.ShloMosaic.Pipeline (Dat BodyObligation)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The ghost state of the TensorCore call's staging cells, within the program's. -/
abbrev EP : Emb UP 𝕄 :=
  ((Emb.inl : Emb UP (UP × Counters)).trans (Emb.inr : Emb (UP × Counters) UU)).trans (uEmb : UEmb UU 𝕄).toEmb

instance EP_landsIn : (EP (F := F)).LandsIn (upEmb : UEmb _ 𝕄) := by unfold EP; infer_instance

variable [FloatOps F]

abbrev adm : (p : Fin 1) → (pcfgs (F := F) p).Adm := fun p => (cfgs p).toPCfg_adm

variable (V : (c : Dev nD) → (b : Ref sig .tc) → Buf (Elt F) ((c : Thread nD τ).loc b))

def pdats : (p : Fin 1) → (c : Dev nD) → Dat τ (Elt F) (HIx 1) ℕ UU ℕ (Pipeline.pin (pcfgs (F := F)) adm p) c
  | ⟨0, _⟩ => fun c => mdat V c

/-- The valuation after the call: the result's buffer at the scores, every other as before. -/
def Vend (c : Dev nD) (b : Ref sig .tc) : Buf (Elt F) ((c : Thread nD τ).loc b) :=
  Function.update (V c) main_v10 (scores V c) b

theorem Vend_out (c : Dev nD) : Vend V c main_v10 = scores V c := Function.update_self _ _ _
theorem Vend_ne (c : Dev nD) (b : Ref sig .tc) (h : b ≠ main_v10) : Vend V c b = V c b := Function.update_of_ne h _ _

theorem arr_ne : ∀ w : Fin 10, w ≠ 9 → Pipeline.arrRef spec1 w ≠ main_v10 := by decide

theorem in_of_ne : ∀ w : Fin 10, w ≠ 9 → (win1 w).isOut = false := by decide

/-- What the TensorCore's wait records are bounded by after the gather call. -/
abbrev owesLow (c : Dev nD) : sProp 𝕄 :=
  iprop(∃ W, ⌜(K (F := F)).WBelow (c : Thread nD τ) W 8⌝ ∗ owes (c : Thread nD τ) (0 : CellTallies nD τ sig (HIx 1)) W)

set_option backward.isDefEq.respectTransparency.types false in
/-- The call over the TensorCore's buffers: entered at valuation `V`, left at `Vend V`. -/
def region : Pipeline.RegionSeg (pcfgs (F := F)) adm (pdats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obl V c).loose
  hwaits := Pipeline.hwaits_of_owed_zero _ _ _ _ _ _ 0 fun _ _ => rfl
  pre c := iprop(unscopedBufs c (V c) ∗ owesLow c)
  post c := iprop(unscopedBufs c (Vend V c) ∗ owesLow c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V 0 c).Φ 0 = BI.emp from rfl]
    iintro -; iempintro
  hout c := by
    rw [Pipeline.ownSems0_none, show (Pipeline.scopedRest (Pipeline.pin (pcfgs (F := F)) adm 0).spec c : sProp 𝕄) = BI.emp from scopedRest1_eq c]
    iintro -
    isplitr; · iempintro
    isplitr; · iempintro
    iempintro
  hexit c := by
    have hjoin := Pipeline.unscopedBufs_of_arrays (p := 0) (pcfgs (F := F)) adm (Ix := HIx 1) (Name := ℕ) (U := UU) (Lvl := ℕ) launch1.win
      launch1.arr_whole c
      (pdats V) ((pdats V 0 c).share_full fun _ => rfl) (V c) (Vend V c) ((pdats V 0 c).arrAt · cfg1.N)
      (fun w => by
        by_cases h9 : w = 9
        · subst h9; exact (arrAt_scores V c).trans (Vend_out V c).symm
        · have hin : (cfg1.win w).isOut = false := in_of_ne w h9
          exact ((mdat V c).arrAt_in w hin _).trans (Vend_ne V c _ (arr_ne w h9)).symm)
      (fun b hb => Vend_ne V c b fun h => hb (h ▸ Finset.mem_image.mpr ⟨9, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | h
      · exact h
      · obtain ⟨w, s, rfl⟩ := h; exact Nat.zero_le _
    iexact HO

/-- The ghost state that the call's staging cells start from. -/
abbrev mlpGhost (d : Dev nD) : sProp 𝕄 :=
  iprop(Pipeline.cellsGhost (Pipeline.pin (pcfgs (F := F)) adm) EP 0 d ∗ Pipeline.toksInit (Pipeline.pin (pcfgs (F := F)) adm) EP 0 d)

set_option backward.isDefEq.respectTransparency.types false in
/-- The call, as a program over the TensorCore's own labels. -/
theorem wp_mlp_entry (d : Dev nD) (Φ : PUnit → sProp 𝕄) :
    iprop((iprop(boundary (d.tc : Thread nD τ) ∗ (region V).post d) -∗ wp frame (wpE (D (F := F)) 𝒱 (d.tc : Thread nD τ) none) Set.univ (.ret ⟨⟩) Φ)
        ∗ boundary (d.tc : Thread nD τ) ∗ (region V).pre d ∗ levAts (K (F := F)).L (K (F := F)).lev ∗ mlpGhost d)
      ⊢ wp frame (wpE (D (F := F)) 𝒱 (d.tc : Thread nD τ) none) Set.univ (.op (.customCall (Pipeline.entry 0) ()) .ret) Φ := by
  have h := Pipeline.RegionSeg.wp (pcfgs (F := F)) adm (pdats V) none cellOf_inj EP (defs₀ (F := F)) 𝒱₀
    (K (F := F)).L (K (F := F)).lev (region V) d none (by simp) .ret Φ
  exact h

/-- The call in the host program: it leaves the TensorCore's buffers with the result at the scores. -/
theorem wp_mlp (d : Dev nD) (Φ : PUnit → sProp 𝕄) :
    iprop((iprop(boundary (d.tc : Thread nD τ) ∗ unscopedBufs d (Vend V d) ∗ owesLow d) -∗ Φ ⟨⟩)
        ∗ boundary (d.tc : Thread nD τ) ∗ (unscopedBufs d (V d) ∗ owesLow d) ∗ levAts (K (F := F)).L (K (F := F)).lev ∗ mlpGhost d)
      ⊢ wp frame (wpE ((K (F := F)).defs (D (F := F))) 𝒱 (d.tc : Thread nD τ) none) Set.univ
          (.op (.customCall (SparseCore.inner (Pipeline.entry 0)) ()) .ret) Φ := by
  have hl := (K (F := F)).wp_liftProg (D (F := F)) 𝒱 (d.tc : Thread nD τ) Set.univ none
    (.op (.customCall (Pipeline.entry 0) ()) .ret) Φ
  refine BIBase.Entails.trans ?_ hl
  refine BIBase.Entails.trans ?_ (wp_mlp_entry V d Φ)
  rw [wp_ret]
  have hpre : (region V).pre d = iprop(unscopedBufs d (V d) ∗ owesLow d) := rfl
  have hpost : (region V).post d = iprop(unscopedBufs d (Vend V d) ∗ owesLow d) := rfl
  rw [hpre, hpost]
  iintro ⟨Hk, H⟩
  isplitl [Hk]
  · iintro H
    imodintro
    iapply Hk
    iexact H
  iexact H

end Cert.Proof.KITile

end
-- ==== Proof.KIMain.lean ====
/-
  The host program on the TensorCore: the ids regrouped for the tasks, the gather call, the weights cut and transposed, the
  call of the layers. The launch then gives the program's run, with what every buffer of the TensorCore holds at its end.
-/
module

public import proofs.«01_k».proof.Proof.KIRegion
public import Idealize.ShloMosaic.Lib.SparseCore.Quiescent
public import Idealize.ShloMosaic.Lib.StableHlo.Run
public import Idealize.ShloMosaic.Lib.Pipeline.Frame

@[expose] public section

noncomputable section

namespace Cert.Proof.KITile

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays of the gather call, whole and by tasks -/

/-- The tasks, numbered by core and subcore. -/
noncomputable def taskEquiv : Fin 2 × Fin 16 ≃ Fin 32 :=
  Equiv.ofBijective (fun x => wid x.1 x.2) (by decide +kernel)

section Split

variable [FloatOps F]
variable (u₁ u₂ : Dev nD → S32x4x128.Idx → Elt F .i32) (t₁ t₂ : Dev nD → S100000x128.Idx → Elt F .f32)

omit [FloatOps F] in
theorem bigSep_tasks (Φ : Fin 32 → sProp 𝕄) :
    (bigSep Finset.univ fun c : Fin ((K (F := F)).nCore 0) => bigSep Finset.univ fun i : Fin ((K (F := F)).nSub 0) => Φ (wK c i))
      = bigSep Finset.univ Φ := by
  have h := BI.bigSep_univ_equiv taskEquiv Φ
  rw [h, BI.bigSep_univ_prod]
  rfl

omit [FloatOps F] in
theorem i1_rows (d : Dev nD) (f : Buf (Elt F) (i1Loc d)) :
    (i1Loc d ↦{fullShare} f : sProp 𝕄) = bigSep Finset.univ fun w : Fin 32 => i1Loc d ↦[iSet w]{fullShare} f := by
  rw [← pointsTo_biUnion Finset.univ (ℓ := i1Loc d) iSet (fun i _ j _ h => Rect.part_disjoint idiv h)]
  unfold iSet; rw [Rect.biUnion_part idiv]
omit [FloatOps F] in
theorem i2_rows (d : Dev nD) (f : Buf (Elt F) (i2Loc d)) :
    (i2Loc d ↦{fullShare} f : sProp 𝕄) = bigSep Finset.univ fun w : Fin 32 => i2Loc d ↦[iSet w]{fullShare} f := by
  rw [← pointsTo_biUnion Finset.univ (ℓ := i2Loc d) iSet (fun i _ j _ h => Rect.part_disjoint idiv h)]
  unfold iSet; rw [Rect.biUnion_part idiv]
omit [FloatOps F] in
theorem o1_rows (d : Dev nD) (f : Buf (Elt F) (o1Loc d)) :
    (o1Loc d ↦{fullShare} f : sProp 𝕄) = bigSep Finset.univ fun w : Fin 32 => o1Loc d ↦[oSet w]{fullShare} f := by
  rw [← pointsTo_biUnion Finset.univ (ℓ := o1Loc d) oSet (fun i _ j _ h => Rect.part_disjoint odiv h)]
  unfold oSet; rw [Rect.biUnion_part odiv]
omit [FloatOps F] in
theorem o2_rows (d : Dev nD) (f : Buf (Elt F) (o2Loc d)) :
    (o2Loc d ↦{fullShare} f : sProp 𝕄) = bigSep Finset.univ fun w : Fin 32 => o2Loc d ↦[oSet w]{fullShare} f := by
  rw [← pointsTo_biUnion Finset.univ (ℓ := o2Loc d) oSet (fun i _ j _ h => Rect.part_disjoint odiv h)]
  unfold oSet; rw [Rect.biUnion_part odiv]

omit [FloatOps F] in
theorem t1_shares (d : Dev nD) (f : Buf (Elt F) (t1Loc d)) :
    (t1Loc d ↦{fullShare} f : sProp 𝕄) = bigSep Finset.univ fun w : Fin 32 => t1Loc d ↦{pieceOf fullShare 32 tpos w} f :=
  pointsTo_piecesOf (ℓ := t1Loc d) Finset.univ f tpos fullShare
omit [FloatOps F] in
theorem t2_shares (d : Dev nD) (f : Buf (Elt F) (t2Loc d)) :
    (t2Loc d ↦{fullShare} f : sProp 𝕄) = bigSep Finset.univ fun w : Fin 32 => t2Loc d ↦{pieceOf fullShare 32 tpos w} f :=
  pointsTo_piecesOf (ℓ := t2Loc d) Finset.univ f tpos fullShare

/-- The four inputs whole are the tasks' parts of them. -/
theorem ins_eq (d : Dev nD) :
    (bigSep Finset.univ fun w : Fin 32 => inRes u₁ u₂ t₁ t₂ d w)
      = iprop((i1Loc d ↦{fullShare} (u₁ d : Buf (Elt F) (i1Loc d))) ∗ (i2Loc d ↦{fullShare} (u₂ d : Buf (Elt F) (i2Loc d)))
          ∗ (t1Loc d ↦{fullShare} (t₁ d : Buf (Elt F) (t1Loc d))) ∗ (t2Loc d ↦{fullShare} (t₂ d : Buf (Elt F) (t2Loc d)))) := by
  unfold inRes
  rw [BI.bigSep_sep', BI.bigSep_sep', BI.bigSep_sep', i1_rows, i2_rows, t1_shares, t2_shares]

/-- What the call takes: the inputs whole, the outputs whole at any contents. -/
theorem st_intro (d : Dev nD) (f : Buf (Elt F) (o1Loc d)) (g : Buf (Elt F) (o2Loc d)) :
    iprop(((i1Loc d ↦{fullShare} (u₁ d : Buf (Elt F) (i1Loc d))) ∗ (i2Loc d ↦{fullShare} (u₂ d : Buf (Elt F) (i2Loc d)))
          ∗ (t1Loc d ↦{fullShare} (t₁ d : Buf (Elt F) (t1Loc d))) ∗ (t2Loc d ↦{fullShare} (t₂ d : Buf (Elt F) (t2Loc d))))
        ∗ (o1Loc d ↦{fullShare} f) ∗ (o2Loc d ↦{fullShare} g))
      ⊢ bigSep Finset.univ fun c : Fin ((K (F := F)).nCore 0) => (P u₁ u₂ t₁ t₂).st 0 d c := by
  have h : (bigSep Finset.univ fun c : Fin ((K (F := F)).nCore 0) => (P u₁ u₂ t₁ t₂).st 0 d c)
      = bigSep Finset.univ fun w : Fin 32 => goRes u₁ u₂ t₁ t₂ d w := bigSep_tasks _
  rw [h]
  unfold goRes
  rw [BI.bigSep_sep' (Φ := fun w => inRes u₁ u₂ t₁ t₂ d w), ins_eq, BI.bigSep_sep', o1_rows, o2_rows]
  have h1 (w : Fin 32) : (o1Loc d ↦[oSet w]{fullShare} f : sProp 𝕄) ⊢ iprop(∃ f, o1Loc d ↦[oSet w]{fullShare} f) := by
    iintro H; iexists f; iexact H
  have h2 (w : Fin 32) : (o2Loc d ↦[oSet w]{fullShare} g : sProp 𝕄) ⊢ iprop(∃ f, o2Loc d ↦[oSet w]{fullShare} f) := by
    iintro H; iexists g; iexact H
  exact sep_mono_right (BIClass.sep_mono (bigSep_mono fun w _ => h1 w) (bigSep_mono fun w _ => h2 w))

/-- What the call brings back: the inputs unchanged, the outputs at the gathered rows. -/
theorem dn_eq (d : Dev nD) :
    (bigSep Finset.univ fun c : Fin ((K (F := F)).nCore 0) => (P u₁ u₂ t₁ t₂).dn 0 d c)
      = iprop(((i1Loc d ↦{fullShare} (u₁ d : Buf (Elt F) (i1Loc d))) ∗ (i2Loc d ↦{fullShare} (u₂ d : Buf (Elt F) (i2Loc d)))
          ∗ (t1Loc d ↦{fullShare} (t₁ d : Buf (Elt F) (t1Loc d))) ∗ (t2Loc d ↦{fullShare} (t₂ d : Buf (Elt F) (t2Loc d))))
        ∗ (o1Loc d ↦{fullShare} (gath (t₁ d) (u₁ d) : Buf (Elt F) (o1Loc d)))
        ∗ (o2Loc d ↦{fullShare} (gath (t₂ d) (u₂ d) : Buf (Elt F) (o2Loc d)))) := by
  have h : (bigSep Finset.univ fun c : Fin ((K (F := F)).nCore 0) => (P u₁ u₂ t₁ t₂).dn 0 d c)
      = bigSep Finset.univ fun w : Fin 32 => tdRes u₁ u₂ t₁ t₂ d w := bigSep_tasks _
  rw [h]
  unfold tdRes
  rw [BI.bigSep_sep' (Φ := fun w => inRes u₁ u₂ t₁ t₂ d w), ins_eq, BI.bigSep_sep', o1_rows, o2_rows]

end Split

/-! ## The host operations and what the buffers hold between them -/

section Vals

variable [FloatOps F]

/-- The host operations before the gather call, and those between the two calls. -/
noncomputable def opsA : List (HloOp τ sig (Elt F)) :=
  [StableHlo.reshape main_arg0 main_v0 (rfl : (.i32 : EltTy) = .i32) shapeCasts_S16384_S32x4x128,
    StableHlo.reshape main_arg1 main_v1 (rfl : (.i32 : EltTy) = .i32) shapeCasts_S16384_S32x4x128]
noncomputable def opsB : List (HloOp τ sig (Elt F)) :=
  [StableHlo.unary main_arg4 main_v3 ((extractStridedSlice S128x128 ![0, 0] · slices_S128x256_S128x128_0_0) : (⟨S128x256, .f32⟩ : BufTy).Contents (Elt F) → (⟨S128x128, .f32⟩ : BufTy).Contents (Elt F)),
    StableHlo.unary main_v3 main_v4 ((transpose S128x128 [1, 0] · transposes_S128x128_S128x128_1_0) : (⟨S128x128, .f32⟩ : BufTy).Contents (Elt F) → (⟨S128x128, .f32⟩ : BufTy).Contents (Elt F)),
    StableHlo.unary main_arg4 main_v5 ((extractStridedSlice S128x128 ![0, 128] · slices_S128x256_S128x128_0_128) : (⟨S128x256, .f32⟩ : BufTy).Contents (Elt F) → (⟨S128x128, .f32⟩ : BufTy).Contents (Elt F)),
    StableHlo.unary main_v5 main_v6 ((transpose S128x128 [1, 0] · transposes_S128x128_S128x128_1_0) : (⟨S128x128, .f32⟩ : BufTy).Contents (Elt F) → (⟨S128x128, .f32⟩ : BufTy).Contents (Elt F)),
    StableHlo.unary main_arg6 main_v7 ((transpose S128x64 [1, 0] · transposes_S64x128_S128x64_1_0) : (⟨S64x128, .f32⟩ : BufTy).Contents (Elt F) → (⟨S128x64, .f32⟩ : BufTy).Contents (Elt F)),
    StableHlo.reshape main_arg5 main_v8 (rfl : (.f32 : EltTy) = .f32) shapeCasts_S128_S1x128,
    StableHlo.reshape main_arg7 main_v9 (rfl : (.f32 : EltTy) = .f32) shapeCasts_S64_S1x64]

theorem main_eq (d : Dev nD) : main (F := F) d = (StableHlo.seq opsA >>= fun _ => sc.run d 0 >>= fun _ =>
    StableHlo.seq opsB >>= fun _ => .op (.customCall (SparseCore.inner (Pipeline.entry 0)) ()) .ret) := by
  rfl

variable (m : (ℓ : Loc nD τ sig) → Buf (Elt F) ℓ)

/-- Device `d`'s buffers before the gather call, after it, before the call of the layers, and at the end. -/
noncomputable def VA (d : Dev nD) : Valuation τ sig (Elt F) := StableHlo.after opsA fun b => m (d, b)
abbrev ids₁ (d : Dev nD) : S32x4x128.Idx → Elt F .i32 := VA m d (main_v0 : Ref sig .tc)
abbrev ids₂ (d : Dev nD) : S32x4x128.Idx → Elt F .i32 := VA m d (main_v1 : Ref sig .tc)
abbrev tab₁ (d : Dev nD) : S100000x128.Idx → Elt F .f32 := VA m d (main_arg2 : Ref sig .tc)
abbrev tab₂ (d : Dev nD) : S100000x128.Idx → Elt F .f32 := VA m d (main_arg3 : Ref sig .tc)
noncomputable def VB (d : Dev nD) : Valuation τ sig (Elt F) :=
  Function.update (Function.update (VA m d) (main_v2_0 : Ref sig .tc) (gath (tab₁ m d) (ids₁ m d))) (main_v2_1 : Ref sig .tc) (gath (tab₂ m d) (ids₂ m d))
noncomputable def VC (d : Dev nD) : Valuation τ sig (Elt F) := StableHlo.after opsB (VB m d)
abbrev VCr : (c : Dev nD) → (b : Ref sig .tc) → Buf (Elt F) ((c : Thread nD τ).loc b) := fun c b => VC m c b
noncomputable def VD (d : Dev nD) : Valuation τ sig (Elt F) := Function.update (VC m d) (main_v10 : Ref sig .tc) (scores (VCr m) d)

/-! ## The buffers of the gather call among the TensorCore's -/

/-- The six buffers that the gather call reads and writes. -/
noncomputable def six : Finset (DevRef τ sig) :=
  {((main_v0 : Ref sig .tc) : DevRef τ sig), ((main_v1 : Ref sig .tc) : DevRef τ sig), ((main_arg2 : Ref sig .tc) : DevRef τ sig),
    ((main_arg3 : Ref sig .tc) : DevRef τ sig), ((main_v2_0 : Ref sig .tc) : DevRef τ sig), ((main_v2_1 : Ref sig .tc) : DevRef τ sig)}

theorem six_sub : six ⊆ Pipeline.ucRefs τ sig := by decide +kernel

omit [FloatOps F] in
theorem held_six (d : Dev nD) (V : Valuation τ sig (Elt F)) :
    (StableHlo.held (d.tc : Thread nD τ) six V : sProp 𝕄)
      = iprop((i1Loc d ↦{fullShare} (V (main_v0 : Ref sig .tc) : Buf (Elt F) (i1Loc d))) ∗ (i2Loc d ↦{fullShare} (V (main_v1 : Ref sig .tc) : Buf (Elt F) (i2Loc d)))
          ∗ (t1Loc d ↦{fullShare} (V (main_arg2 : Ref sig .tc) : Buf (Elt F) (t1Loc d))) ∗ (t2Loc d ↦{fullShare} (V (main_arg3 : Ref sig .tc) : Buf (Elt F) (t2Loc d)))
          ∗ (o1Loc d ↦{fullShare} (V (main_v2_0 : Ref sig .tc) : Buf (Elt F) (o1Loc d))) ∗ (o2Loc d ↦{fullShare} (V (main_v2_1 : Ref sig .tc) : Buf (Elt F) (o2Loc d)))) := by
  unfold StableHlo.held six
  rw [SparseCore.bigSep_insert' (by decide), SparseCore.bigSep_insert' (by decide), SparseCore.bigSep_insert' (by decide),
    SparseCore.bigSep_insert' (by decide), SparseCore.bigSep_insert' (by decide), bigSep_singleton]

theorem VB_out₁ (d : Dev nD) : VB m d (main_v2_0 : Ref sig .tc) = gath (tab₁ m d) (ids₁ m d) :=
  (Function.update_of_ne (by decide) _ _).trans (Function.update_self _ _ _)
theorem VB_out₂ (d : Dev nD) : VB m d (main_v2_1 : Ref sig .tc) = gath (tab₂ m d) (ids₂ m d) :=
  Function.update_self _ _ _
theorem VB_ne (d : Dev nD) (b : DevRef τ sig) (h0 : b ≠ (main_v2_0 : Ref sig .tc)) (h1 : b ≠ (main_v2_1 : Ref sig .tc)) : VB m d b = VA m d b :=
  (Function.update_of_ne h1 _ _).trans (Function.update_of_ne h0 _ _)

theorem held_rest (d : Dev nD) :
    (StableHlo.held (d.tc : Thread nD τ) (Pipeline.ucRefs τ sig \ six) (VA m d) : sProp 𝕄)
      = StableHlo.held (d.tc : Thread nD τ) (Pipeline.ucRefs τ sig \ six) (VB m d) := by
  unfold StableHlo.held
  refine bigSep_congr fun b hb => ?_
  have hn := (Finset.mem_sdiff.mp hb).2
  rw [VB_ne m d b (fun h => hn (h ▸ by decide)) (fun h => hn (h ▸ by decide))]

/-- Out of the TensorCore's buffers, what the gather call takes. -/
theorem call_take (d : Dev nD) :
    (StableHlo.held (d.tc : Thread nD τ) (Pipeline.ucRefs τ sig) (VA m d) : sProp 𝕄)
      ⊢ iprop((bigSep Finset.univ fun c : Fin ((K (F := F)).nCore 0) => (P (ids₁ m) (ids₂ m) (tab₁ m) (tab₂ m)).st 0 d c)
          ∗ StableHlo.held (d.tc : Thread nD τ) (Pipeline.ucRefs τ sig \ six) (VB m d)) := by
  rw [StableHlo.held_sub_split _ six_sub, held_rest, held_six]
  iintro ⟨⟨H1, H2, H3, H4, H5, H6⟩, Hr⟩
  isplitr [Hr]
  · iapply (st_intro (ids₁ m) (ids₂ m) (tab₁ m) (tab₂ m) d (VA m d (main_v2_0 : Ref sig .tc)) (VA m d (main_v2_1 : Ref sig .tc)))
    isplitl [H1 H2 H3 H4]
    · isplitl [H1]; · iexact H1
      isplitl [H2]; · iexact H2
      isplitl [H3]; · iexact H3
      iexact H4
    isplitl [H5]; · iexact H5
    iexact H6
  iexact Hr

/-- What the gather call brings back, among the TensorCore's buffers again. -/
theorem call_give (d : Dev nD) :
    iprop((bigSep Finset.univ fun c : Fin ((K (F := F)).nCore 0) => (P (ids₁ m) (ids₂ m) (tab₁ m) (tab₂ m)).dn 0 d c)
          ∗ StableHlo.held (d.tc : Thread nD τ) (Pipeline.ucRefs τ sig \ six) (VB m d))
      ⊢ (StableHlo.held (d.tc : Thread nD τ) (Pipeline.ucRefs τ sig) (VB m d) : sProp 𝕄) := by
  rw [StableHlo.held_sub_split _ six_sub, held_six, dn_eq, VB_out₁, VB_out₂, VB_ne m d (main_v0 : Ref sig .tc) (by decide) (by decide),
    VB_ne m d (main_v1 : Ref sig .tc) (by decide) (by decide), VB_ne m d (main_arg2 : Ref sig .tc) (by decide) (by decide),
    VB_ne m d (main_arg3 : Ref sig .tc) (by decide) (by decide)]
  iintro ⟨⟨⟨H1, H2, H3, H4⟩, H5, H6⟩, Hr⟩
  isplitr [Hr]
  · isplitl [H1]; · iexact H1
    isplitl [H2]; · iexact H2
    isplitl [H3]; · iexact H3
    isplitl [H4]; · iexact H4
    isplitl [H5]; · iexact H5
    iexact H6
  iexact Hr

theorem VD_out (d : Dev nD) : VD m d (main_v10 : Ref sig .tc) = scores (VCr m) d := by
  unfold VD; exact Function.update_self _ _ _
theorem VD_ne (d : Dev nD) (b : Ref sig .tc) (h : b ≠ main_v10) : VD m d b = VC m d b := by
  unfold VD; exact Function.update_of_ne (StableHlo.devRef_ne_of_ne h) _ _

/-- The buffers at the end, as the call of the layers leaves them. -/
theorem end_bufs (d : Dev nD) :
    (unscopedBufs d (Vend (VCr m) d) : sProp 𝕄) ⊢ StableHlo.held (d.tc : Thread nD τ) (Pipeline.ucRefs τ sig) (VD m d) := by
  rw [← Pipeline.unscopedBufs_held]
  refine Entails.of_eq (congrArg _ (funext fun b => ?_))
  by_cases h : b = main_v10
  · subst h
    exact (Vend_out (VCr m) d).trans (VD_out m d).symm
  · exact (Vend_ne (VCr m) d b h).trans (VD_ne m d b h).symm

/-! ## The launch element of the certificate's ghost state -/

noncomputable def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

variable (ρ : Dev nD → PrngReg)

theorem ghost_one (Φ : Dev nD → Fin 1 → sProp 𝕄) :
    (bigSep Finset.univ fun c : Dev nD => bigSep Finset.univ fun p : Fin 1 => Φ c p) = bigSep Finset.univ fun c : Dev nD => Φ c 0 :=
  bigSep_congr fun _ _ => bigSep_univ_of_subsingleton (0 : Fin 1)

omit [FloatOps F] in
theorem own_EP (x : UP) :
    (BI.own (((Emb.inl : Emb UP (UP × Counters)).trans (embR : Emb (UP × Counters) 𝕄)) x) : sProp 𝕄) = BI.own (EP x) := rfl

theorem hu₀ (u₁ u₂ : Dev nD → S32x4x128.Idx → Elt F .i32) (t₁ t₂ : Dev nD → S100000x128.Idx → Elt F .f32) : (ownU (u₀ (F := F)) : sProp 𝕄)
    ⊢ |={Set.univ}=> iprop(BI.own (EH (initOf (K (F := F)).hsCells (K (F := F)).hsToks)) ∗ (bigSep Finset.univ fun d : Dev nD => mlpGhost d)
        ∗ bigSep Finset.univ fun thr : Thread nD τ => bigSep Finset.univ fun q : Fin 1 => (P u₁ u₂ t₁ t₂).x q thr) := by
  have hx : (bigSep Finset.univ fun thr : Thread nD τ => bigSep Finset.univ fun q : Fin 1 => (P u₁ u₂ t₁ t₂).x q thr) = (iprop(emp) : sProp 𝕄) :=
    (bigSep_congr fun _ _ => bigSep_univ_of_subsingleton (0 : Fin 1)).trans (bigSep_emp_const _)
  have hp := Pipeline.fund_ghost (nD := nD) (τ := τ) (Ix := HIx 1) (Val := Elt F) (Name := ℕ) (U := UU) (Lvl := ℕ)
    (Pipeline.pin (pcfgs (F := F)) adm) EP cellOf_inj
  rw [ghost_one, ghost_one] at hp
  have hm : (bigSep Finset.univ fun d : Dev nD => mlpGhost (F := F) d) = _ := BI.bigSep_sep' _ _ _
  rw [hx, hm]
  unfold u₀
  iintro Hu
  ihave H := (ownU_pair (initOf (K (F := F)).hsCells (K (F := F)).hsToks)
    ((initOf (Pipeline.cells (Pipeline.pin (pcfgs (F := F)) adm) cellOf_inj) (Pipeline.launchToks (Pipeline.pin (pcfgs (F := F)) adm) cellOf_inj), 1) : UP × Counters)) $$ Hu
  icases H with ⟨HH, HR⟩
  ihave H := (own_pair_emb _ _ _) $$ HR
  icases H with ⟨HP, -⟩
  ihave HP' := (Entails.of_eq (own_EP _)) $$ HP
  imod hp $$ HP' with ⟨H1, H2⟩
  imodintro
  isplitl [HH]; · iexact HH
  isplitl [H1 H2]
  · isplitl [H1]; · iexact H1
    iexact H2
  iempintro

/-! ## @main on the TensorCore -/

theorem subA : ∀ op ∈ opsA (F := F), op.bufs ⊆ Pipeline.ucRefs τ sig := fun op h => Pipeline.sub_ucRefs op (by
  simp only [opsA, List.mem_cons, List.not_mem_nil, or_false] at h
  rcases h with rfl | rfl <;> simp)
theorem freshA : ∀ op ∈ opsA (F := F), op.fresh = ∅ := fun op h => by
  simp only [opsA, List.mem_cons, List.not_mem_nil, or_false] at h
  rcases h with rfl | rfl <;> rfl
theorem subB : ∀ op ∈ opsB (F := F), op.bufs ⊆ Pipeline.ucRefs τ sig := fun op h => Pipeline.sub_ucRefs op (by
  simp only [opsB, List.mem_cons, List.not_mem_nil, or_false] at h
  rcases h with rfl | rfl | rfl | rfl | rfl | rfl | rfl <;> simp)
theorem freshB : ∀ op ∈ opsB (F := F), op.fresh = ∅ := fun op h => by
  simp only [opsB, List.mem_cons, List.not_mem_nil, or_false] at h
  rcases h with rfl | rfl | rfl | rfl | rfl | rfl | rfl <;> rfl

/-- After the one SparseCore call, the TensorCore owes nothing and its recorded waits are below the launch's bound. -/
theorem low_eq (d : Dev nD) :
    (iprop(∃ W, ⌜(K (F := F)).WBelow (SparseCore.T d) W (8 * SparseCore.Cfg.Blocks.fst 1 1 1)⌝ ∗ owes (SparseCore.T d) ((K (F := F)).Otc d 1) W) : sProp 𝕄)
      = owesLow d := by
  rw [(K (F := F)).Otc_end d (le_refl 1)]; rfl

abbrev FIN (d : Dev nD) : sProp 𝕄 := StableHlo.held (d.tc : Thread nD τ) (Pipeline.ucRefs τ sig) (VD m d)

set_option backward.isDefEq.respectTransparency.types false in
theorem hmain (κ : GSem nD τ sig → ℕ) (d : Dev nD) :
    iprop((K (F := F)).ctx EH (P (ids₁ m) (ids₂ m) (tab₁ m) (tab₂ m)) κ ∗ (K (F := F)).tcSt EH d 0 ∗ (K (F := F)).tcRes m ρ d ∗ mlpGhost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  have h0 : (unscopedBufs d (fun b => m ((SparseCore.T d).loc b)) : sProp 𝕄)
      = StableHlo.held (d.tc : Thread nD τ) (Pipeline.ucRefs τ sig) (fun b => m (d, b)) := Pipeline.unscopedBufs_held d (fun b => m (d, b))
  rw [h0]
  iintro ⟨#Hctx, Hst, ⟨Hb, Hh, Hts, -⟩, HG⟩
  iapply (StableHlo.wp_seq 𝒱 none Set.univ d (Pipeline.ucRefs τ sig) _ opsA subA freshA (fun b => m (d, b))) $$ [Hb Hh]
  · isplitl [Hb]; · iexact Hb
    iexact Hh
  iintro ⟨Hb, Hh⟩
  rw [wp_bind]
  ihave Hh := (show StableHlo.held (d.tc : Thread nD τ) (Pipeline.ucRefs τ sig) (StableHlo.after opsA fun b => m (d, b)) ⊢ _ from call_take m d) $$ Hh
  icases Hh with ⟨Hin, Hrest⟩
  iapply ((K (F := F)).wp_run (D (F := F)) 𝒱 (EH := EH) (P := P (ids₁ m) (ids₂ m) (tab₁ m) (tab₂ m)) κ d 0)
  isplitr; · iexact Hctx
  isplitl [Hst]; · iexact Hst
  isplitl [Hin]; · iexact Hin
  iintro ⟨Hst, Hdn⟩
  ihave Hh := (call_give m d) $$ [Hdn Hrest]
  · isplitl [Hdn] <;> iassumption
  iapply (StableHlo.wp_seq 𝒱 none Set.univ d (Pipeline.ucRefs τ sig) _ opsB subB freshB (VB m d)) $$ [Hb Hh]
  · isplitl [Hb]; · iexact Hb
    iexact Hh
  iintro ⟨Hb, Hh⟩
  unfold SparseCore.Cfg.tcSt
  icases Hst with ⟨HO, Hst⟩
  ihave Hu := (show StableHlo.held (d.tc : Thread nD τ) (Pipeline.ucRefs τ sig) (StableHlo.after opsB (VB m d)) ⊢ unscopedBufs d (VCr m d) from
    Entails.of_eq (Pipeline.unscopedBufs_held d (VC m d)).symm) $$ Hh
  iapply (wp_mlp (VCr m) d)
  isplitl [Hst Hts]
  · iintro ⟨Hb, Hu, HO⟩
    isplitl [Hst HO]
    · isplitl [HO]
      · iapply (Entails.of_eq (low_eq d).symm); iexact HO
      iexact Hst
    isplitl [Hu]
    · iapply (end_bufs m d); iexact Hu
    isplitl [Hb]; · iexact Hb
    iexact Hts
  isplitl [Hb]; · iexact Hb
  isplitl [Hu HO]
  · isplitl [Hu]; · iexact Hu
    iapply (Entails.of_eq (low_eq d)); iexact HO
  isplitr
  · iapply (SparseCore.Cfg.ctx_levAts κ); iexact Hctx
  iexact HG

def fq (d : Dev nD) (s' : Phys nD τ sig (Elt F)) : Prop := ∀ b ∈ Pipeline.ucRefs τ sig, s'.mem.mem (d, b) = VD m d b

theorem hfin (d : Dev nD) (s' : Phys nD τ sig (Elt F)) : iprop(FIN m d ∗ SI s') ⊢ (⌜fq m d s'⌝ : sProp 𝕄) := by
  iintro ⟨H, HSI⟩
  unfold FIN StableHlo.held
  iapply (SI_pointsTo_bufs_agree (st := s') (qs := fun _ => fullShare) (Pipeline.ucRefs τ sig))
  isplitl [HSI]; · iexact HSI
  iexact H

/-- The run: every buffer of the TensorCore at its contents, every semaphore at zero. -/
def QC : PUnit × MemSt nD τ sig (Elt F) → Prop := fun r =>
  (∀ d : Dev nD, ∀ b ∈ Pipeline.ucRefs τ sig, r.2.mem (d, b) = VD m d b) ∧ r.2.sem = fun _ => 0

theorem run_main [∀ e, Nonempty (Elt F e)] (hpre : IdsOK (ids₁ m) (ids₂ m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (ids₁ m) (ids₂ m) (tab₁ m) (tab₂ m)) (A := ∅) facts v₀
    (fun q hq => match q with | 0 => nomatch hq)
    (fun q _ => match q with | 0 => tileObl (ids₁ m) (ids₂ m) (tab₁ m) (tab₂ m) facts hpre)
    (fun q _ => match q with | 0 => SparseCore.Cfg.VecSplit.of_plain (vecSplit (ids₁ m) (ids₂ m) (tab₁ m) (tab₂ m)))
    m ρ main (fun d => mlpGhost d) (FIN m) (u₀ (F := F)) (sep_elim_left.trans (hu₀ (ids₁ m) (ids₂ m) (tab₁ m) (tab₂ m))) (hmain m ρ) (fq m) (hfin m)
    (QC m) (fun _ h hz => ⟨h, hz⟩)

end Vals

end Cert.Proof.KITile

end
-- ==== Proof.KIFrame.lean ====
/-
  What the run says of the program's arguments and result: the arguments keep their contents, the result is the scores of the
  gathered rows; and the precondition gives that every id is a row of its table.
-/
module

public import proofs.«01_k».proof.Defs
public import proofs.«01_k».proof.Proof.Gen.Pre_ids_in_tables
public import proofs.«01_k».proof.Proof.KIMain

@[expose] public section

noncomputable section

namespace Cert.Proof.KITile

open Cert.KernelIdeal Cert.KernelIdeal.Gen

open Idealize.ShloMosaic Idealize.ShloMosaic.TcCoe
open Idealize.SL.Sem

variable {F : FTy → Type} [FloatOps F] (m : (ℓ : Loc nD τ sig) → Buf (Elt F) ℓ)

/-! ## The buffers that no step of the host program writes, and the ones it computes -/

theorem VA_keep (d : Dev nD) (r : Ref sig .tc) (h : r ∉ [main_v0, main_v1]) : VA m d r = m (d, r) := by
  unfold VA
  exact StableHlo.after_of_writes_sub opsA (fun b => m (d, b)) (StableHlo.forall_writes_sub_of_map (W := [main_v0, main_v1]) rfl) h

theorem VB_keep (d : Dev nD) (r : Ref sig .tc) (h : r ∉ [main_v0, main_v1, main_v2_0, main_v2_1]) : VB m d r = m (d, r) := by
  simp only [List.mem_cons, List.not_mem_nil, or_false, not_or] at h
  rw [VB_ne m d r (StableHlo.devRef_ne_of_ne h.2.2.1) (StableHlo.devRef_ne_of_ne h.2.2.2)]
  exact VA_keep m d r (by simp [h.1, h.2.1])

/-- The references that the host operations between the calls write. -/
abbrev outB : List (Ref sig .tc) := [main_v3, main_v4, main_v5, main_v6, main_v7, main_v8, main_v9]

theorem VC_keep (d : Dev nD) (r : Ref sig .tc) (h : r ∉ outB) : VC m d r = VB m d r := by
  unfold VC
  exact StableHlo.after_of_writes_sub opsB (VB m d) (StableHlo.forall_writes_sub_of_map (W := outB) rfl) h

theorem VD_arg (d : Dev nD) (r : Ref sig .tc) (h : r ∉ [main_v0, main_v1, main_v2_0, main_v2_1]) (hB : r ∉ outB) (h10 : r ≠ main_v10) :
    VD m d r = m (d, r) :=
  (VD_ne m d r h10).trans ((VC_keep m d r hB).trans (VB_keep m d r h))

theorem uc_mem (r : Ref sig .tc) (h : ¬ r.isScoped) : (r : DevRef τ sig) ∈ Pipeline.ucRefs τ sig :=
  Finset.mem_filter.mpr ⟨StableHlo.devRef_mem_tcRefs r, h⟩

/-- A run's argument keeps its contents. -/
theorem arg_keep {r : PUnit × MemSt nD τ sig (Elt F)} (h : QC m r) (d : Dev nD) (b : Ref sig .tc) (hs : ¬ b.isScoped)
    (h1 : b ∉ [main_v0, main_v1, main_v2_0, main_v2_1]) (hB : b ∉ outB) (h10 : b ≠ main_v10) :
    r.2.mem ((d.tc : Thread nD τ).loc b) = m ((d.tc : Thread nD τ).loc b) :=
  (h.1 d b (uc_mem b hs)).trans (VD_arg m d b h1 hB h10)

/-- A run's arguments, all ten. -/
theorem args_keep {r : PUnit × MemSt nD τ sig (Elt F)} (h : QC m r) (d : Dev nD) :
    r.2.mem ((d.tc : Thread nD τ).loc main_arg0) = m ((d.tc : Thread nD τ).loc main_arg0)
    ∧ r.2.mem ((d.tc : Thread nD τ).loc main_arg1) = m ((d.tc : Thread nD τ).loc main_arg1)
    ∧ r.2.mem ((d.tc : Thread nD τ).loc main_arg2) = m ((d.tc : Thread nD τ).loc main_arg2)
    ∧ r.2.mem ((d.tc : Thread nD τ).loc main_arg3) = m ((d.tc : Thread nD τ).loc main_arg3)
    ∧ r.2.mem ((d.tc : Thread nD τ).loc main_arg4) = m ((d.tc : Thread nD τ).loc main_arg4)
    ∧ r.2.mem ((d.tc : Thread nD τ).loc main_arg5) = m ((d.tc : Thread nD τ).loc main_arg5)
    ∧ r.2.mem ((d.tc : Thread nD τ).loc main_arg6) = m ((d.tc : Thread nD τ).loc main_arg6)
    ∧ r.2.mem ((d.tc : Thread nD τ).loc main_arg7) = m ((d.tc : Thread nD τ).loc main_arg7)
    ∧ r.2.mem ((d.tc : Thread nD τ).loc main_arg8) = m ((d.tc : Thread nD τ).loc main_arg8)
    ∧ r.2.mem ((d.tc : Thread nD τ).loc main_arg9) = m ((d.tc : Thread nD τ).loc main_arg9) :=
  ⟨arg_keep m h d main_arg0 (by decide) (by decide) (by decide) (by decide), arg_keep m h d main_arg1 (by decide) (by decide) (by decide) (by decide),
    arg_keep m h d main_arg2 (by decide) (by decide) (by decide) (by decide), arg_keep m h d main_arg3 (by decide) (by decide) (by decide) (by decide),
    arg_keep m h d main_arg4 (by decide) (by decide) (by decide) (by decide), arg_keep m h d main_arg5 (by decide) (by decide) (by decide) (by decide),
    arg_keep m h d main_arg6 (by decide) (by decide) (by decide) (by decide), arg_keep m h d main_arg7 (by decide) (by decide) (by decide) (by decide),
    arg_keep m h d main_arg8 (by decide) (by decide) (by decide) (by decide), arg_keep m h d main_arg9 (by decide) (by decide) (by decide) (by decide)⟩

/-- A run's result. -/
theorem run_out {r : PUnit × MemSt nD τ sig (Elt F)} (h : QC m r) (d : Dev nD) :
    r.2.mem ((d.tc : Thread nD τ).loc main_v10) = scores (VCr m) d :=
  (h.1 d main_v10 (uc_mem main_v10 (by decide))).trans (VD_out m d)

theorem ids₁_eq (d : Dev nD) :
    ids₁ m d = shapeCast S32x4x128 (m ((d.tc : Thread nD τ).loc main_arg0) : S16384.Idx → Elt F .i32) shapeCasts_S16384_S32x4x128 := by
  unfold ids₁ VA opsA
  after_results
  rfl
theorem ids₂_eq (d : Dev nD) :
    ids₂ m d = shapeCast S32x4x128 (m ((d.tc : Thread nD τ).loc main_arg1) : S16384.Idx → Elt F .i32) shapeCasts_S16384_S32x4x128 := by
  unfold ids₂ VA opsA
  after_results
  rfl

theorem VC_out₁ (d : Dev nD) : VC m d main_v2_0 = gath (m ((d.tc : Thread nD τ).loc main_arg2)) (ids₁ m d) := by
  rw [VC_keep m d main_v2_0 (by decide), VB_out₁, show tab₁ m d = m (d, main_arg2) from VA_keep m d main_arg2 (by decide)]
theorem VC_out₂ (d : Dev nD) : VC m d main_v2_1 = gath (m ((d.tc : Thread nD τ).loc main_arg3)) (ids₂ m d) := by
  rw [VC_keep m d main_v2_1 (by decide), VB_out₂, show tab₂ m d = m (d, main_arg3) from VA_keep m d main_arg3 (by decide)]

/-- The weights and biases as the call of the layers takes them. -/
theorem VC_w1 (d : Dev nD) : VC m d main_v4 = transpose S128x128 [1, 0]
    (extractStridedSlice S128x128 ![0, 0] (m ((d.tc : Thread nD τ).loc main_arg4) : S128x256.Idx → Elt F .f32) slices_S128x256_S128x128_0_0)
    transposes_S128x128_S128x128_1_0 := by
  unfold VC opsB
  after_results
  rw [VB_keep m d main_arg4 (by decide)]
theorem VC_w2 (d : Dev nD) : VC m d main_v6 = transpose S128x128 [1, 0]
    (extractStridedSlice S128x128 ![0, 128] (m ((d.tc : Thread nD τ).loc main_arg4) : S128x256.Idx → Elt F .f32) slices_S128x256_S128x128_0_128)
    transposes_S128x128_S128x128_1_0 := by
  unfold VC opsB
  after_results
  rw [VB_keep m d main_arg4 (by decide)]
theorem VC_w3 (d : Dev nD) : VC m d main_v7 = transpose S128x64 [1, 0]
    (m ((d.tc : Thread nD τ).loc main_arg6) : S64x128.Idx → Elt F .f32) transposes_S64x128_S128x64_1_0 := by
  unfold VC opsB
  after_results
  rw [VB_keep m d main_arg6 (by decide)]
theorem VC_b1 (d : Dev nD) : VC m d main_v8 = shapeCast S1x128
    (m ((d.tc : Thread nD τ).loc main_arg5) : S128.Idx → Elt F .f32) shapeCasts_S128_S1x128 := by
  unfold VC opsB
  after_results
  rw [VB_keep m d main_arg5 (by decide)]; rfl
theorem VC_b2 (d : Dev nD) : VC m d main_v9 = shapeCast S1x64
    (m ((d.tc : Thread nD τ).loc main_arg7) : S64.Idx → Elt F .f32) shapeCasts_S64_S1x64 := by
  unfold VC opsB
  after_results
  rw [VB_keep m d main_arg7 (by decide)]; rfl
theorem VC_w4 (d : Dev nD) : VC m d main_arg8 = m ((d.tc : Thread nD τ).loc main_arg8) :=
  (VC_keep m d main_arg8 (by decide)).trans (VB_keep m d main_arg8 (by decide))
theorem VC_b3 (d : Dev nD) : VC m d main_arg9 = m ((d.tc : Thread nD τ).loc main_arg9) :=
  (VC_keep m d main_arg9 (by decide)).trans (VB_keep m d main_arg9 (by decide))

/-! ## The precondition -/

/-- Where the precondition's word is one, both ids are rows of the tables. -/
theorem ids_of_word (a b : BitVec 32)
    (e : IntOp.andi (IntOp.andi (IntOp.andi (IntOp.cmpi .sge a 0#32) (IntOp.cmpi .slt a 100000#32)) (IntOp.cmpi .sge b 0#32)) (IntOp.cmpi .slt b 100000#32) = 1#1) :
    a.toNat < 100000 ∧ b.toNat < 100000 := by
  have hand (p q : Bool) : IntOp.andi (BitVec.ofBool p) (BitVec.ofBool q) = BitVec.ofBool (p && q) := by
    cases p <;> cases q <;> decide
  have hone (p : Bool) : (BitVec.ofBool p = 1#1) ↔ p = true := by cases p <;> decide
  simp only [IntOp.cmpi, hand, hone, Bool.and_eq_true, BitVec.sle_eq_decide, BitVec.slt_eq_decide,
    decide_eq_true_eq, BitVec.toInt_eq_toNat_cond, BitVec.toNat_ofNat, Nat.reducePow, Nat.reduceMod] at e
  omega

/-- Both id arrays are rows of the tables. -/
def InTables (a b : S16384.Idx → BitVec 32) : Prop := (∀ j, (a j).toNat < 100000) ∧ ∀ j, (b j).toNat < 100000

theorem ok_of_inTables (h : ∀ d : Dev nD, InTables (m ((d.tc : Thread nD τ).loc main_arg0)) (m ((d.tc : Thread nD τ).loc main_arg1))) :
    IdsOK (ids₁ m) (ids₂ m) := by
  refine ⟨fun d x => ?_, fun d x => ?_⟩
  · rw [ids₁_eq]; exact (h d).1 _
  · rw [ids₂_eq]; exact (h d).2 _

variable {mB : (ℓ : Loc nD τ sig) → Buf (Elt Ideal) ℓ}

theorem inTables_of_pre (hp : Cert.Pre_KernelIdeal mB) (d : Dev nD) :
    InTables (mB ((d.tc : Thread nD τ).loc main_arg0)) (mB ((d.tc : Thread nD τ).loc main_arg1)) := by
  have key (j : S16384.Idx) := ids_of_word (mB ((d.tc : Thread nD τ).loc main_arg0) j) (mB ((d.tc : Thread nD τ).loc main_arg1) j) (by
    have e := congrFun (hp d) j
    simp only [Pre_ids_in_tables.fn, andi, cmpi, broadcastInDim, constantI] at e
    exact e)
  exact ⟨fun j => (key j).1, fun j => (key j).2⟩

/-- The run of the program as the claims have it. -/
theorem run_pre (ρ : Dev nD → PrngReg) (hp : Cert.Pre_KernelIdeal mB) :
    θ_run (Cert.KernelIdeal.defs (F := Ideal)) (Cert.KernelIdeal.threads (F := Ideal)) ⟨mB, fun _ => 0, ρ⟩ (QC mB) :=
  run_main mB ρ (ok_of_inTables mB (inTables_of_pre hp))

/-- The frame claim. -/
theorem quiet : Cert.quiescent_KernelIdeal := fun m ρ hp =>
  (θ_run Cert.KernelIdeal.defs _ _).mono (fun _ h => ⟨fun d => args_keep m h d, h.2⟩) (run_pre ρ hp)

end Cert.Proof.KITile

end
-- ==== Proof.Score.lean ====
/-
  The score of one row in plain sums, and the layers' block read at a row as that score.
-/
module

public import proofs.«01_k».proof.Proof.KIMlp
public import Idealize.ShloMosaic.Lib.Pointwise

@[expose] public section

noncomputable section

namespace Cert.Proof.Score

open Idealize.ShloMosaic

/-- The three layers at one pair of embeddings `u`, `v`: the first layer's weights act on `u` by their first 128 columns and on `v`
    by the others. -/
def scoreOf (u v : Fin 128 → EReal) (W1 : (⟨2, ![128, 256]⟩ : Shape).Idx → EReal) (b1 : (⟨1, ![128]⟩ : Shape).Idx → EReal)
    (W2 : (⟨2, ![64, 128]⟩ : Shape).Idx → EReal) (b2 : (⟨1, ![64]⟩ : Shape).Idx → EReal)
    (W3 : (⟨2, ![1, 64]⟩ : Shape).Idx → EReal) (b3 : (⟨1, ![1]⟩ : Shape).Idx → EReal) : EReal :=
  (∑ q : Fin 64, max ((∑ p : Fin 128,
      max ((∑ k : Fin 128, u k * W1 (ix2 p ⟨k.val, by omega⟩)) + (∑ k : Fin 128, v k * W1 (ix2 p ⟨128 + k.val, by omega⟩)) + b1 (ix1 p)) 0
        * W2 (ix2 q p)) + b2 (ix1 q)) 0 * W3 (ix2 0 q)) + b3 (ix1 0)

open Cert.KernelIdeal Cert.KernelIdeal.Gen Cert.Proof.KITile

set_option maxRecDepth 16384 in
/-- The layers' block at row `r`, its weights as the host program cuts and transposes them. -/
theorem mlpBlock_apply (a b : FVec Ideal S2048x128 .f32) (W1 : FVec Ideal S128x256 .f32) (b1 : FVec Ideal S128 .f32)
    (W2 : FVec Ideal S64x128 .f32) (b2 : FVec Ideal S64 .f32) (W3 : FVec Ideal S1x64 .f32) (b3 : FVec Ideal S1 .f32) (r : Fin 2048) :
    mlpBlock (F := Ideal) a b
        (transpose S128x128 [1, 0] (extractStridedSlice S128x128 ![0, 0] W1 slices_S128x256_S128x128_0_0) transposes_S128x128_S128x128_1_0)
        (transpose S128x128 [1, 0] (extractStridedSlice S128x128 ![0, 128] W1 slices_S128x256_S128x128_0_128) transposes_S128x128_S128x128_1_0)
        (shapeCast S1x128 b1 shapeCasts_S128_S1x128) (transpose S128x64 [1, 0] W2 transposes_S64x128_S128x64_1_0)
        (shapeCast S1x64 b2 shapeCasts_S64_S1x64) W3 b3 (ix1 r)
      = scoreOf (fun k => a (ix2 r k)) (fun k => b (ix2 r k)) W1 b1 W2 b2 W3 b3 := by
  unfold mlpBlock scoreOf
  pointwise [k1_pay1]

end Cert.Proof.Score
-- ==== Proof.RefScore.lean ====
/-
  The reference's result read at a row: where both ids are rows of the tables, the score of the two rows they name.
-/
module

public import proofs.«01_k».proof.Proof.Gen.ReferenceIdeal.Run
public import proofs.«01_k».proof.Proof.Score
public import Idealize.ShloMosaic.Lib.Routing.Ops

@[expose] public section

noncomputable section

namespace Cert.Proof.Score

open Cert.ReferenceIdeal Cert.ReferenceIdeal.Gen
open Idealize.ShloMosaic Idealize.ShloMosaic.TcCoe

/-- The row number the reference looks up: the id, a negative one counted from the table's end. -/
abbrev refIdx (ids : IVec S16384 32) : IVec S16384 32 :=
  select (cmpi .slt ids (broadcastInDim S16384 ![] bcast_S_S16384 (constantI S_ 32 0#32)))
    (addi ids (broadcastInDim S16384 ![] bcast_S_S16384 (constantI S_ 32 100000#32))) ids

/-- The row numbers as a column. -/
abbrev refCol (ids : IVec S16384 32) : IVec S16384x1 32 := broadcastInDim S16384x1 ![0] bcast_S16384_S16384x1_0 (refIdx ids)

/-- Whether a row number is in the table. -/
abbrev refIn (ids : IVec S16384 32) : IVec S16384x1 1 :=
  andi (cmpi .sge (refCol ids) (broadcastInDim S16384x1 ![] bcast_S_S16384x1 (constantI S_ 32 0#32)))
    (cmpi .sle (refCol ids) (broadcastInDim S16384x1 ![0, 1] bcast_S1x1_S16384x1_0_1 (broadcastInDim S1x1 ![1] bcast_S1_S1x1_1 (constantI S1 32 99999#32))))

/-- The reference's rows: the looked-up ones, and a fill where the row number is not in the table. -/
abbrev refTake (ids : IVec S16384 32) (t : FVec Ideal S100000x128 .f32) : FVec Ideal S16384x128 .f32 :=
  select (broadcastInDim S16384x128 ![0] bcast_S16384_S16384x128_0
      (Host.reduce IntOp.andi (refIn ids) (constantI S_ 1 1#1) reducesTo_S16384x1_S16384_d1 h_S_))
    (Host.gather gather_S100000x128_S16384x1_S16384x128_1_0_n_n_0_1_1128 t (refCol ids))
    (broadcastInDim S16384x128 ![] bcast_S_S16384x128 (constant S_ .f32 0x7FC00000#32))

/-- The three layers of the reference, on the rows `X` and `Y`. -/
abbrev refMlp (X Y : FVec Ideal S16384x128 .f32) (W1 : FVec Ideal S128x256 .f32) (b1 : FVec Ideal S128 .f32)
    (W2 : FVec Ideal S64x128 .f32) (b2 : FVec Ideal S64 .f32) (W3 : FVec Ideal S1x64 .f32) (b3 : FVec Ideal S1 .f32) : FVec Ideal S16384 .f32 :=
  shapeCast S16384 (addf (Host.dotGeneral dot_S16384x64_S64x1_S16384x1_1_0_0_1_n_n none
    (maximumf (addf (Host.dotGeneral dot_S16384x128_S128x64_S16384x64_1_0_0_1_n_n none
      (maximumf (addf (Host.dotGeneral dot_S16384x256_S256x128_S16384x128_1_0_0_1_n_n none
          (concatenate S16384x256 1 [⟨S16384x128, X⟩, ⟨S16384x128, Y⟩] concatenates_S16384x128_S16384x128_S16384x256_d1)
          (transpose S256x128 [1, 0] W1 transposes_S128x256_S256x128_1_0))
        (broadcastInDim S16384x128 ![0, 1] bcast_S1x128_S16384x128_0_1 (broadcastInDim S1x128 ![1] bcast_S128_S1x128_1 b1)))
        (broadcastInDim S16384x128 ![] bcast_S_S16384x128 (constant S_ .f32 0x00000000#32)))
      (transpose S128x64 [1, 0] W2 transposes_S64x128_S128x64_1_0))
      (broadcastInDim S16384x64 ![0, 1] bcast_S1x64_S16384x64_0_1 (broadcastInDim S1x64 ![1] bcast_S64_S1x64_1 b2)))
      (broadcastInDim S16384x64 ![] bcast_S_S16384x64 (constant S_ .f32 0x00000000#32)))
    (transpose S64x1 [1, 0] W3 transposes_S1x64_S64x1_1_0))
    (broadcastInDim S16384x1 ![0, 1] bcast_S1x1_S16384x1_0_1 (broadcastInDim S1x1 ![1] bcast_S1_S1x1_1 b3))) shapeCasts_S16384x1_S16384

set_option maxRecDepth 16384 in
theorem refMlp_apply (X Y : FVec Ideal S16384x128 .f32) (W1 : FVec Ideal S128x256 .f32) (b1 : FVec Ideal S128 .f32)
    (W2 : FVec Ideal S64x128 .f32) (b2 : FVec Ideal S64 .f32) (W3 : FVec Ideal S1x64 .f32) (b3 : FVec Ideal S1 .f32) (r : Fin 16384) :
    refMlp X Y W1 b1 W2 b2 W3 b3 (ix1 r) = scoreOf (fun k => X (ix2 r k)) (fun k => Y (ix2 r k)) W1 b1 W2 b2 W3 b3 := by
  unfold scoreOf
  pointwise

/-- An id below the table's height is not negative, and passes both tests. -/
theorem word_tests (w : BitVec 32) (h : w.toNat < 100000) :
    IntOp.cmpi .slt w 0#32 = 0#1 ∧ IntOp.cmpi .sge w 0#32 = 1#1 ∧ IntOp.cmpi .sle w 99999#32 = 1#1 := by
  simp only [IntOp.cmpi, BitVec.slt_eq_decide, BitVec.sle_eq_decide, BitVec.toInt_eq_toNat_cond, BitVec.toNat_ofNat, Nat.reducePow,
    Nat.reduceMod]
  refine ⟨?_, ?_, ?_⟩
  · rw [decide_eq_false (by omega)]; rfl
  · rw [decide_eq_true (by omega)]; rfl
  · rw [decide_eq_true (by omega)]; rfl

/-- So it is looked up as it stands. -/
theorem refCol_apply (ids : IVec S16384 32) (r : Fin 16384) (h : (ids (ix1 r)).toNat < 100000) :
    refCol ids (ix2 r 0) = ids (ix1 r) := by
  pointwise
  rw [(word_tests _ h).1]
  rfl

/-- And the reference's row is the table's row it names. -/
theorem refTake_apply (ids : IVec S16384 32) (t : FVec Ideal S100000x128 .f32) (r : Fin 16384) (k : Fin 128)
    (h : (ids (ix1 r)).toNat < 100000) : refTake ids t (ix2 r k) = t (ix2 ⟨(ids (ix1 r)).toNat, h⟩ k) := by
  have hg : Host.gather gather_S100000x128_S16384x1_S16384x128_1_0_n_n_0_1_1128 t (refCol ids) (ix2 r k)
      = t (ix2 ⟨(ids (ix1 r)).toNat, h⟩ k) :=
    Routing.gather_row _ rfl rfl rfl rfl rfl t (refCol ids) r k ⟨(ids (ix1 r)).toNat, h⟩
      ((refCol_apply ids r h).trans (by simp)) (by omega)
  pointwise
  rw [(word_tests _ h).1, hg, show (Scalar.select 0#1 (IntOp.addi (ids (ix1 r)) 100000#32) (ids (ix1 r))) = ids (ix1 r) from rfl,
    (word_tests _ h).2.1, (word_tests _ h).2.2]
  rfl

/-- The reference's result, by those names. -/
theorem res_eq (m : (ℓ : Loc nD τ sig) → Buf (Elt Ideal) ℓ) (c : Dev nD) :
    Value.res_main_v20 m c = refMlp (refTake (m ((c.tc : Thread nD τ).loc main_arg0)) (m ((c.tc : Thread nD τ).loc main_arg2)))
      (refTake (m ((c.tc : Thread nD τ).loc main_arg1)) (m ((c.tc : Thread nD τ).loc main_arg3)))
      (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) := rfl

/-- The reference's result at row `r`. -/
theorem res_apply (m : (ℓ : Loc nD τ sig) → Buf (Elt Ideal) ℓ) (c : Dev nD) (ids₁ ids₂ : IVec S16384 32) (t₁ t₂ : FVec Ideal S100000x128 .f32)
    (e₀ : m ((c.tc : Thread nD τ).loc main_arg0) = ids₁) (e₁ : m ((c.tc : Thread nD τ).loc main_arg1) = ids₂)
    (e₂ : m ((c.tc : Thread nD τ).loc main_arg2) = t₁) (e₃ : m ((c.tc : Thread nD τ).loc main_arg3) = t₂)
    (r : Fin 16384) (h₁ : (ids₁ (ix1 r)).toNat < 100000) (h₂ : (ids₂ (ix1 r)).toNat < 100000) :
    Value.res_main_v20 m c (ix1 r : S16384.Idx)
      = scoreOf (fun k => t₁ (ix2 ⟨(ids₁ (ix1 r)).toNat, h₁⟩ k)) (fun k => t₂ (ix2 ⟨(ids₂ (ix1 r)).toNat, h₂⟩ k))
        (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9)) := by
  subst e₀ e₁ e₂ e₃
  rw [res_eq]
  refine (refMlp_apply _ _ _ _ _ _ _ _ r).trans ?_
  rw [funext fun k => refTake_apply _ _ r k h₁, funext fun k => refTake_apply _ _ r k h₂]

end Cert.Proof.Score
-- ==== Proof.Value.lean ====
/-
  The kernel's result and the reference's, row by row: the same scores.
-/
module

public import proofs.«01_k».proof.Proof.KIFrame
public import proofs.«01_k».proof.Proof.RefScore

@[expose] public section

noncomputable section

namespace Cert.Proof.Score

open Cert.KernelIdeal Cert.KernelIdeal.Gen Cert.Proof.KITile
open Idealize.ShloMosaic Idealize.ShloMosaic.TcCoe

/-- The ids cut into the tiles' groups of 128, read at row `r`'s place, are row `r`'s. -/
theorem ids_at (a : IVec S16384 32) (r : Fin 16384) :
    shapeCast S32x4x128 a shapeCasts_S16384_S32x4x128 (ix3 (x0 r) (x1 r) (x2 r)) = a (ix1 r) := by
  pointwise
  refine congrArg a (congrArg ix1 (Fin.ext ?_))
  simp only [x0, x1, x2]
  omega

/-- The gathered rows at row `r`: the table's row that id `r` names. -/
theorem gath_at (t : FVec Ideal S100000x128 .f32) (a : IVec S16384 32) (r : Fin 16384) (k : Fin 128) (h : (a (ix1 r)).toNat < 100000) :
    gath (F := Ideal) t (shapeCast S32x4x128 a shapeCasts_S16384_S32x4x128) (ix2 r k) = t (ix2 ⟨(a (ix1 r)).toNat, h⟩ k) := by
  unfold gath
  refine congrArg t (congrArg (fun z => ix2 z k) (Fin.ext ?_))
  show (shapeCast S32x4x128 a shapeCasts_S16384_S32x4x128 (ix3 (x0 r) (x1 r) (x2 r))).toNat % 100000 = _
  rw [ids_at]
  exact Nat.mod_eq_of_lt h

/-- Row `r`'s place in its block of 2048 rows is row `r`. -/
theorem rowsAt_at (A : FVec Ideal S16384x128 .f32) (r : Fin 16384) (k : Fin 128) :
    rowsAt (F := Ideal) A (ptOf (ix1 r)) (ix2 ⟨r.val % 2048, Nat.mod_lt _ (by decide)⟩ k) = A (ix2 r k) := by
  unfold rowsAt
  refine congrArg A (congrArg (fun z => ix2 z k) (Fin.ext ?_))
  show 2048 * (r.val / 2048) + r.val % 2048 = r.val
  omega

variable (m : (ℓ : Loc nD τ sig) → Buf (Elt Ideal) ℓ)

/-- The kernel's result at row `r`. -/
theorem scores_apply (c : Dev nD) (r : Fin 16384)
    (h₁ : ((m ((c.tc : Thread nD τ).loc main_arg0) : IVec S16384 32) (ix1 r)).toNat < 100000)
    (h₂ : ((m ((c.tc : Thread nD τ).loc main_arg1) : IVec S16384 32) (ix1 r)).toNat < 100000) :
    scores (VCr m) c (ix1 r : S16384.Idx)
      = scoreOf (fun k => (m ((c.tc : Thread nD τ).loc main_arg2) : FVec Ideal S100000x128 .f32) (ix2 ⟨_, h₁⟩ k))
          (fun k => (m ((c.tc : Thread nD τ).loc main_arg3) : FVec Ideal S100000x128 .f32) (ix2 ⟨_, h₂⟩ k))
        (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9)) := by
  show score (VCr m) c (ptOf (ix1 r)) (ix1 ⟨r.val % 2048, Nat.mod_lt _ (by decide)⟩) = _
  rw [score_eq]
  show mlpBlock (rowsAt (VC m c main_v2_0) _) (rowsAt (VC m c main_v2_1) _) (VC m c main_v4) (VC m c main_v6) (VC m c main_v8) (VC m c main_v7)
    (VC m c main_v9) (VC m c main_arg8) (VC m c main_arg9) _ = _
  rw [VC_out₁, VC_out₂, VC_w1, VC_w2, VC_b1, VC_w3, VC_b2, VC_w4, VC_b3, ids₁_eq, ids₂_eq]
  refine (mlpBlock_apply _ _ _ _ _ _ _ _ _).trans ?_
  rw [funext fun k => (rowsAt_at _ r k).trans (gath_at _ _ r k h₁), funext fun k => (rowsAt_at _ r k).trans (gath_at _ _ r k h₂)]

/-- From memories that agree on the arguments, the reference's result is the kernel's. -/
theorem res_scores (m' : (ℓ : Loc Cert.ReferenceIdeal.nD Cert.ReferenceIdeal.τ Cert.ReferenceIdeal.sig) → Buf (Elt Ideal) ℓ) (c : Dev nD)
    (hm : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9))
    (ht : InTables (m ((c.tc : Thread nD τ).loc main_arg0)) (m ((c.tc : Thread nD τ).loc main_arg1))) :
    (Cert.ReferenceIdeal.Value.res_main_v20 m' c : S16384.Idx → EReal) = scores (VCr m) c := by
  obtain ⟨e0, e1, e2, e3, e4, e5, e6, e7, e8, e9⟩ := hm
  funext j
  obtain ⟨r, rfl⟩ : ∃ r : Fin 16384, j = ix1 r := ⟨j 0, eq_ix1 j⟩
  rw [scores_apply m c r (ht.1 _) (ht.2 _)]
  refine (res_apply m' c _ _ _ _ e0 e1 e2 e3 r (ht.1 _) (ht.2 _)).trans ?_
  rw [e4, e5, e6, e7, e8, e9]

end Cert.Proof.Score
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_ids_in_tables
public import proofs.«01_k».proof.Proof.KFrame
public import proofs.«01_k».proof.Proof.KIFrame
public import proofs.«01_k».proof.Proof.Value
public import Idealize.ShloMosaic.Adequacy
public import Idealize.ShloMosaic.Init

@[expose] public section

noncomputable section

namespace Cert.Proof

open Idealize.ShloMosaic Idealize.SL.Sem Cert.Kernel

/-- The reference's run, its argument arrays unchanged; it declares no semaphore. -/
theorem reference_quiet : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same, said with the precondition. -/
theorem reference_quiet_pre : Cert.quiescent_ReferenceIdeal_pre_ids_in_tables := fun m ρ _ => reference_quiet m ρ trivial

/-- The kernel and the reference end with the same scores. -/
theorem same_scores : Cert.algebraic_KernelIdeal_ReferenceIdeal := by
  intro m g m' g' hp hm
  refine ⟨fun c => KITile.scores (KITile.VCr m) c,
    (θ_run Cert.KernelIdeal.defs _ _).mono (fun r h c => ⟨KITile.run_out m h c, KITile.args_keep m h c⟩) (KITile.run_pre g hp),
    (θ_run Cert.ReferenceIdeal.defs _ _).mono (fun r h c => ⟨(h c).1.trans ?_, (h c).2⟩) (Cert.ReferenceIdeal.Value.run (F := Ideal) m' g')⟩
  exact Score.res_scores m m' c (hm c) (KITile.inTables_of_pre hp c)

theorem claim : Cert.Claim := ⟨Cert.Kernel.Gen.facts, Cert.KernelIdeal.Gen.facts, Cert.ReferenceIdeal.Gen.facts, Cert.Pre_ids_in_tables.Gen.facts,
  KTile.quiet, KITile.quiet, reference_quiet, reference_quiet_pre, trivial, same_scores⟩

end Cert.Proof

end
